-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "erfc_rate" .f32 0x3E87C3B6#32 (((3 / 8) * (Real.sqrt 2)⁻¹ : ℝ) : EReal)
  ∧ IdealRules.named_const.Statement Cert.KernelIdeal.κ "neg_half_log2e" .f32 0xBF38AA3B#32 ((-((1 / 2) * (Real.log 2)⁻¹) : ℝ) : EReal)

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![24576, 12416]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v4_0) i = v0 c i)
          ∧ (∀ i : (⟨2, ![24576, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v4_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![24576, 12416]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v4_0) i = v0 c i)
          ∧ (∀ i : (⟨2, ![24576, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v4_1) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_written (hKernelIdeal := hKernelIdeal) (hReferenceIdeal := hReferenceIdeal) (hOn_written := hOn_written)
-- ==== On_written.lean ====
abbrev S4x6144x12928 : Shape := ⟨3, ![4, 6144, 12928]⟩
abbrev S4x6144x1 : Shape := ⟨3, ![4, 6144, 1]⟩
abbrev S12928x12416 : Shape := ⟨2, ![12928, 12416]⟩
abbrev S12416 : Shape := ⟨1, ![12416]⟩
abbrev S24576x128 : Shape := ⟨2, ![24576, 128]⟩
abbrev S_ : Shape := ⟨0, ![]⟩
abbrev S24576x12416 : Shape := ⟨2, ![24576, 12416]⟩

class Facts : Prop where
  bcast_S_S24576x12416 : S_.BroadcastsInDim S24576x12416 (![] : Fin 0 → Fin S24576x12416.rank)
  bcast_S_S24576x128 : S_.BroadcastsInDim S24576x128 (![] : Fin 0 → Fin S24576x128.rank)

variable [Facts]

def fn {F : FTy → Type} [FloatOps F] (main_arg0 : FVec F S4x6144x12928 .fp8e4m3) (main_arg1 : FVec F S4x6144x1 .f32) (main_arg2 : FVec F S12928x12416 .fp8e4m3) (main_arg3 : FVec F S12416 .f32) (main_arg4 : FVec F S12416 .bf16) : IVec S24576x12416 1 × IVec S24576x128 1 :=
  let main_v0 : IVec S24576x128 32 := iotaInDim S24576x128 32 1
  let main_c : IVec S_ 1 := constantI S_ 1 1#1
  let main_v1 : IVec S24576x12416 1 := broadcastInDim S24576x12416 ![] bcast_S_S24576x12416 main_c
  let main_c_0 : IVec S_ 32 := constantI S_ 32 97#32
  let main_v2 : IVec S24576x128 32 := broadcastInDim S24576x128 ![] bcast_S_S24576x128 main_c_0
  let main_v3 : IVec S24576x128 1 := cmpi .slt main_v0 main_v2
  (main_v1, main_v3)
-- ==== Kernel.lean ====
abbrev S4x6144x12928 : Shape := ⟨3, ![4, 6144, 12928]⟩
abbrev S4x6144x1 : Shape := ⟨3, ![4, 6144, 1]⟩
abbrev S12928x12416 : Shape := ⟨2, ![12928, 12416]⟩
abbrev S12416 : Shape := ⟨1, ![12416]⟩
abbrev S24576x12928 : Shape := ⟨2, ![24576, 12928]⟩
abbrev S24576x1 : Shape := ⟨2, ![24576, 1]⟩
abbrev S1x12416 : Shape := ⟨2, ![1, 12416]⟩
abbrev S24576x12416 : Shape := ⟨2, ![24576, 12416]⟩
abbrev S24576x128 : Shape := ⟨2, ![24576, 128]⟩
abbrev S1024x12928 : Shape := ⟨2, ![1024, 12928]⟩
abbrev S1024x1 : Shape := ⟨2, ![1024, 1]⟩
abbrev S12928x512 : Shape := ⟨2, ![12928, 512]⟩
abbrev S1x512 : Shape := ⟨2, ![1, 512]⟩
abbrev S1024x512 : Shape := ⟨2, ![1024, 512]⟩
abbrev S1024x128 : Shape := ⟨2, ![1024, 128]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4x6144x12928, .fp8e4m3⟩
  | .hbm, ⟨1, _⟩ => ⟨S4x6144x1, .f32⟩
  | .hbm, ⟨2, _⟩ => ⟨S12928x12416, .fp8e4m3⟩
  | .hbm, ⟨3, _⟩ => ⟨S12416, .f32⟩
  | .hbm, ⟨4, _⟩ => ⟨S12416, .bf16⟩
  | .hbm, ⟨5, _⟩ => ⟨S24576x12928, .fp8e4m3⟩
  | .hbm, ⟨6, _⟩ => ⟨S24576x1, .f32⟩
  | .hbm, ⟨7, _⟩ => ⟨S1x12416, .f32⟩
  | .hbm, ⟨8, _⟩ => ⟨S1x12416, .bf16⟩
  | .hbm, ⟨9, _⟩ => ⟨S24576x12416, .fp8e4m3⟩
  | .hbm, ⟨10, _⟩ => ⟨S24576x128, .f32⟩
  | .local _ .vmem, ⟨0, _⟩ => ⟨S1024x12928, .fp8e4m3⟩
  | .local _ .vmem, ⟨1, _⟩ => ⟨S1024x12928, .fp8e4m3⟩
  | .local _ .vmem, ⟨2, _⟩ => ⟨S1024x1, .f32⟩
  | .local _ .vmem, ⟨3, _⟩ => ⟨S1024x1, .f32⟩
  | .local _ .vmem, ⟨4, _⟩ => ⟨S12928x512, .fp8e4m3⟩
  | .local _ .vmem, ⟨5, _⟩ => ⟨S12928x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .bf16⟩
  | .local _ .vmem, ⟨9, _⟩ => ⟨S1x512, .bf16⟩
  | .local _ .vmem, ⟨10, _⟩ => ⟨S1024x512, .fp8e4m3⟩
  | .local _ .vmem, ⟨11, _⟩ => ⟨S1024x512, .fp8e4m3⟩
  | .local _ .vmem, ⟨12, _⟩ => ⟨S1024x128, .f32⟩
  | .local _ .vmem, ⟨13, _⟩ => ⟨S1024x128, .f32⟩
  | _, _ => ⟨S4x6144x12928, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x12928 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S12928x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "erfc_rate" => some (((3 / 8) * (Real.sqrt 2)⁻¹ : ℝ) : EReal)
  | "neg_half_log2e" => some ((-((1 / 2) * (Real.log 2)⁻¹) : ℝ) : EReal)
  | _ => none
-- ==== ReferenceIdeal.lean ====
abbrev S4x6144x12928 : Shape := ⟨3, ![4, 6144, 12928]⟩
abbrev S4x6144x1 : Shape := ⟨3, ![4, 6144, 1]⟩
abbrev S12928x12416 : Shape := ⟨2, ![12928, 12416]⟩
abbrev S12416 : Shape := ⟨1, ![12416]⟩
abbrev S24576x12928 : Shape := ⟨2, ![24576, 12928]⟩
abbrev S24576x1 : Shape := ⟨2, ![24576, 1]⟩
abbrev S1x12416 : Shape := ⟨2, ![1, 12416]⟩
abbrev S24576x12416 : Shape := ⟨2, ![24576, 12416]⟩
abbrev S24576x128 : Shape := ⟨2, ![24576, 128]⟩
abbrev S24576x97x128 : Shape := ⟨3, ![24576, 97, 128]⟩
abbrev S24576x97 : Shape := ⟨2, ![24576, 97]⟩
abbrev S24576x97x1 : Shape := ⟨3, ![24576, 97, 1]⟩
abbrev S24576x31 : Shape := ⟨2, ![24576, 31]⟩

abbrev nBuf : Space → Nat
  | .hbm => 11
  | .vmem => 7
  | .smem => 0
  | _ => 0

abbrev bufTy : (tb : Table) → Fin (tcTables nBuf tb) → BufTy
  | .hbm, ⟨0, _⟩ => ⟨S4x6144x12928, .fp8e4m3⟩
  | .hbm, ⟨1, _⟩ => ⟨S4x6144x1, .f32⟩
  | .hbm, ⟨2, _⟩ => ⟨S12928x12416, .fp8e4m3⟩
  | .hbm, ⟨3, _⟩ => ⟨S12416, .f32⟩
  | .hbm, ⟨4, _⟩ => ⟨S12416, .bf16⟩
  | .hbm, ⟨5, _⟩ => ⟨S24576x12928, .fp8e4m3⟩
  | .hbm, ⟨6, _⟩ => ⟨S24576x1, .f32⟩
  | .hbm, ⟨7, _⟩ => ⟨S1x12416, .f32⟩
  | .hbm, ⟨8, _⟩ => ⟨S1x12416, .bf16⟩
  | .hbm, ⟨9, _⟩ => ⟨S24576x12416, .fp8e4m3⟩
  | .hbm, ⟨10, _⟩ => ⟨S24576x128, .f32⟩
  | .local _ .vmem, ⟨0, _⟩ => ⟨S24576x12928, .fp8e4m3⟩
  | .local _ .vmem, ⟨1, _⟩ => ⟨S24576x1, .f32⟩
  | .local _ .vmem, ⟨2, _⟩ => ⟨S12928x12416, .fp8e4m3⟩
  | .local _ .vmem, ⟨3, _⟩ => ⟨S1x12416, .f32⟩
  | .local _ .vmem, ⟨4, _⟩ => ⟨S1x12416, .bf16⟩
  | .local _ .vmem, ⟨5, _⟩ => ⟨S24576x12416, .fp8e4m3⟩
  | .local _ .vmem, ⟨6, _⟩ => ⟨S24576x128, .f32⟩
  | _, _ => ⟨S4x6144x12928, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x12928 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12928x12416 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12416 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12416 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x12416 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.lean ====
/-
  The frame of the kernel at the bit-exact floats: it runs without fault and leaves its arguments as they were. Nothing
  is said of what it computes, so the two output buffers are held to no relation.
-/
module

public import proofs.«01_k».proof.Proof.Gen.Kernel.Skeleton
public import proofs.«01_k».proof.Proof.Gen.Kernel.Frame
public import Idealize.ShloMosaic.Lib.Claim
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel Cert.Kernel.Gen

variable {F : FTy → Type} [FloatOps F]

local notation "𝕄" => MT nD τ sig Unit (Elt F) ℕ (UR sig nD τ) ℕ

set_option maxHeartbeats 4000000 in
/-- The body on whole staging memrefs, the inputs' at read contents and the outputs' at anything: the inputs' stay, the
    outputs' end at something. -/
theorem sound_kernel (c : Dev nD) (E : Set ℕ) (i : grid0.Coords)
    (arg0 : Memref sig .tc .vmem S1024x12928 .fp8e4m3) (harg0 : arg0.IsWhole) (arg1 : Memref sig .tc .vmem S1024x1 .f32) (harg1 : arg1.IsWhole)
    (arg2 : Memref sig .tc .vmem S12928x512 .fp8e4m3) (harg2 : arg2.IsWhole) (arg3 : Memref sig .tc .vmem S1x512 .f32) (harg3 : arg3.IsWhole)
    (arg4 : Memref sig .tc .vmem S1x512 .bf16) (harg4 : arg4.IsWhole) (arg5 : Memref sig .tc .vmem S1024x512 .fp8e4m3) (harg5 : arg5.IsWhole)
    (arg6 : Memref sig .tc .vmem S1024x128 .f32) (harg6 : arg6.IsWhole)
    (x0 : Vec F S1024x12928 .fp8e4m3) (x1 : Vec F S1024x1 .f32) (x2 : Vec F S12928x512 .fp8e4m3) (x3 : Vec F S1x512 .f32) (x4 : Vec F S1x512 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)) -∗ K ⟨⟩))
      ⊢ wp frame (wpE (defs₀ (F := F)) Variants.none c none) E (cc0_linear_gelu_quant i arg0 harg0 arg1 harg1 arg2 harg2 arg3 harg3 arg4 harg4 arg5 harg5 arg6 harg6) K := by
  simp only [cc0_linear_gelu_quant_eq_skeleton]; unfold cc0_linear_gelu_quant_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexists _; isplitr
    swap; · iexact H5
    ipureintro; rfl
  iexists _; iexists _; isplitr
  swap; · iexact H6
  ipureintro; rfl

/-! ## The pipeline's proof data -/

variable (m : (ℓ : Loc nD τ sig) → Buf (Elt F) ℓ) (ρ : Dev nD → PrngReg)

/-- The arrays as the region finds them, and what the body leaves in the input buffers: the blocks, those of the weights,
    their scales and the bias on the columns inside the array (the rest is any word). What it leaves in the two output
    buffers is stated by relations, below. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Classical.arbitrary _) (iblk m c 2 t)
    | ⟨3, _⟩ => win0_3.fill (grid0.coords t) (fun _ => Classical.arbitrary _) (iblk m c 3 t)
    | ⟨4, _⟩ => win0_4.fill (grid0.coords t) (fun _ => Classical.arbitrary _) (iblk m c 4 t)
    | ⟨5, _⟩ => fun _ => Classical.arbitrary _
    | ⟨6, _⟩ => fun _ => Classical.arbitrary _
  Φ _ := Pipeline.ΦA spec0 c
  q _ := fullShare
  owed _ := 0

theorem dat_A (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = win0_2.fill (grid0.coords t) (fun _ => Classical.arbitrary _) (iblk m c 2 t) := by dsimp only [dat]
theorem after_3 (c : Dev nD) (t : Fin cfg0.N) : (dat m c).after 3 t = win0_3.fill (grid0.coords t) (fun _ => Classical.arbitrary _) (iblk m c 3 t) := by dsimp only [dat]
theorem after_4 (c : Dev nD) (t : Fin cfg0.N) : (dat m c).after 4 t = win0_4.fill (grid0.coords t) (fun _ => Classical.arbitrary _) (iblk m c 4 t) := by dsimp only [dat]

/-- What the body finds in the input buffers. -/
theorem before_0 (c : Dev nD) (t : Fin cfg0.N) (d) : (dat m c).before 0 t d = iblk m c 0 t :=
  before0_0_of m (dat m c) (dat_A m c 0) (after_0 m c) t d
theorem before_1 (c : Dev nD) (t : Fin cfg0.N) (d) : (dat m c).before 1 t d = iblk m c 1 t :=
  before0_1_of m (dat m c) (dat_A m c 1) (after_1 m c) t d
theorem before_2 (c : Dev nD) (t : Fin cfg0.N) (d) : (dat m c).before 2 t d = win0_2.fill (grid0.coords t) d (iblk m c 2 t) := by
  unfold Dat.before; rw [if_pos (fetch0_2 t)]; unfold Dat.fetched Dat.blockOf iblk; rw [dat_A]
theorem before_3 (c : Dev nD) (t : Fin cfg0.N) (d) : (dat m c).before 3 t d = win0_3.fill (grid0.coords t) d (iblk m c 3 t) := by
  unfold Dat.before; rw [if_pos (fetch0_3 t)]; unfold Dat.fetched Dat.blockOf iblk; rw [dat_A]
theorem before_4 (c : Dev nD) (t : Fin cfg0.N) (d) : (dat m c).before 4 t d = win0_4.fill (grid0.coords t) d (iblk m c 4 t) := by
  unfold Dat.before; rw [if_pos (fetch0_4 t)]; unfold Dat.fetched Dat.blockOf iblk; rw [dat_A]

/-- The two output windows, whose buffers are held to relations. -/
def marked (w : Fin cfg0.W) : Bool := match w with
  | ⟨5, _⟩ => true
  | ⟨6, _⟩ => true
  | _ => false

/-- The proof data with the two output windows held to nothing. -/
abbrev rdat (c : Dev nD) : RDat τ (Elt F) Unit ℕ (UR sig nD τ) ℕ cfg0 c := (dat m c).toRRel marked (fun _ _ _ => True)

/-! ## The body obligation -/

theorem row_eq (t : Fin cfg0.N) : defs₀ (F := F) .tc cfg0.body (cfg0.bodyArgs t (cfg0.slots t)) = bodyAt0 t := by
  unfold defs₀; rw [Defs.onTc_tc]

theorem body_obligation (c : Dev nD) :
    BodyObligationRel (dat m c) (defs₀ (F := F)) Variants.none () Set.univ marked (fun _ _ _ => True) := fun t => by
  rw [bigSep_W0, bigSep_W0, row_eq]
  simp only [show marked 0 = false from rfl, show marked 1 = false from rfl, show marked 2 = false from rfl, show marked 3 = false from rfl,
    show marked 4 = false from rfl, show marked 5 = true from rfl, show marked 6 = true from rfl]
  rw [show (dat m c).Φ t.succ = (dat m c).Φ t.castSucc from rfl,
    show (dat m c).owesAt () t.succ = (dat m c).owesAt () t.castSucc from rfl]
  iintro ⟨HΦ, Ho, ⟨%d0, H0⟩, ⟨%d1, H1⟩, ⟨%d2, H2⟩, ⟨%d3, H3⟩, ⟨%d4, H4⟩, ⟨%Y5, -, H5⟩, ⟨%Y6, -, H6⟩⟩
  rw [before_0, before_1, before_2, before_3, before_4]
  iapply (sound_kernel (F := F) c Set.univ (grid0.coords t) _ _ _ _ _ _ _ _ _ _ _ _ _ _ (iblk m c 0 t) (iblk m c 1 t)
    (win0_2.fill (grid0.coords t) d2 (iblk m c 2 t)) (win0_3.fill (grid0.coords t) d3 (iblk m c 3 t)) (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%Z5, H5⟩, ⟨%Z6, H6⟩⟩
  isplitl [HΦ]; · iexact HΦ
  isplitl [Ho]; · iexact Ho
  have e2 : win0_2.cut (grid0.coords t) ((dat m c).after 2 t) = iblk m c 2 t := by rw [after_2]; exact win0_2.cut_fill _ _ _
  have e3 : win0_3.cut (grid0.coords t) ((dat m c).after 3 t) = iblk m c 3 t := by rw [after_3]; exact win0_3.cut_fill _ _ _
  have e4 : win0_4.cut (grid0.coords t) ((dat m c).after 4 t) = iblk m c 4 t := by rw [after_4]; exact win0_4.cut_fill _ _ _
  isplitl [H0]; · rw [after_0]; iexact H0
  isplitl [H1]; · rw [after_1]; iexact H1
  isplitl [H2]
  · iexists d2
    change _ ⊢ owns (c : Thread nD τ) (win0_2.stage (cfg0.slots t 2)) fullShare (win0_2.fill (grid0.coords t) d2 (win0_2.cut (grid0.coords t) ((dat m c).after 2 t)))
    rw [e2]
  isplitl [H3]
  · iexists d3
    change _ ⊢ owns (c : Thread nD τ) (win0_3.stage (cfg0.slots t 3)) fullShare (win0_3.fill (grid0.coords t) d3 (win0_3.cut (grid0.coords t) ((dat m c).after 3 t)))
    rw [e3]
  isplitl [H4]
  · iexists d4
    change _ ⊢ owns (c : Thread nD τ) (win0_4.stage (cfg0.slots t 4)) fullShare (win0_4.fill (grid0.coords t) d4 (win0_4.cut (grid0.coords t) ((dat m c).after 4 t)))
    rw [e4]
  isplitl [H5]
  · iexists Z5; isplitr; · ipureintro; trivial
    iexact H5
  · iexists Z6; isplitr; · ipureintro; trivial
    iexact H6

/-! ## The run -/

set_option backward.isDefEq.respectTransparency.types false in
set_option maxHeartbeats 800000 in
/-- From any memory with zero counters every fair execution terminates with the arrays as the proof data say. -/
theorem run :
    θ_run defs (onTc (τ := τ) (main (F := F))) (s₀ m ρ)
      (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := dat_A m) (hΦ := fun _ _ => rfl)

/-- The argument arrays end as they were. -/
theorem args_of_post {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (RDat.FramePost.arr_in h c 2 rfl).trans ((dat_A m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- THE FRAME: the run, saying nothing of the outputs. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of_post m h.1, h.2⟩)
    (run m ρ)

end Cert.Kernel.Run

end
-- ==== Proof.KernelIdealValues.lean ====
/-
  What one grid step of the kernel computes, as functions of the blocks it reads: the activation of the step's
  1024 × 512 tile, and for each of its four groups of 128 columns the scale, the codes, and the scale written into the
  group's lane. The printed body cuts these into pieces by position; here each is written once.
-/
module

public import proofs.«01_k».proof.Proof.Gen.KernelIdeal.Skeleton
public import Idealize.ShloMosaic.Lib.Pipeline.FrameBody

@[expose] public section

noncomputable section

namespace Cert.KernelIdeal.Step

open Idealize.ShloMosaic Idealize.SL.Sem
open Cert.KernelIdeal Cert.KernelIdeal.Gen

variable {F : FTy → Type} [FloatOps F] [Named F]

/-- The activation of a tile: the matrix product scaled by row and column, plus the bias, through the GELU. -/
def act (x : Vec F S1024x12928 .fp8e4m3) (xs : Vec F S1024x1 .f32) (w : Vec F S12928x512 .fp8e4m3)
    (ws : Vec F S1x512 .f32) (b : Vec F S1x512 .bf16) : FVec F S1024x512 .f32 :=
  k0_pay10 (k0_pay4 x w xs ws b) (k0_pay5 x w xs ws b) (k0_pay6 x w xs ws b) (k0_pay7 x w xs ws b)
    (k0_pay8 x w xs ws b) k0_pay9

/-- The largest magnitude of each row of a group, times the f32 nearest 1/448. -/
def top (g : FVec F S1024x128 .f32) : FVec F S1024x1 .f32 :=
  mulf (shapeCast S1024x1 (multiReduction .maximumf [1] S1024 (absf g) 0xFF800000#32 reduces_S1024x128_S1024 (.inl rfl) rfl)
    shapeCasts_S1024_S1024x1) (broadcast S1024x1 (Scalar.ofBits .f32 0x3B124925#32))

/-- One step of the search for the exponent field of `y`: the field so far, and `k` more if the power of two with the
    larger field is still at most `y`. -/
def grow (y : FVec F S1024x1 .f32) (k : BitVec 32) (e : IVec S1024x1 32) : IVec S1024x1 32 :=
  select (cmpf .oge y (bitcastToFloat .f32 (shli (addi e (broadcast S1024x1 k)) (broadcast S1024x1 23#32))))
    (addi e (broadcast S1024x1 k)) e

/-- The exponent field of `y`, in place (shifted by the 23 bits of the significand). -/
def field (y : FVec F S1024x1 .f32) : IVec S1024x1 32 :=
  select (cmpf .one y y) (broadcast S1024x1 2139095040#32)
    (shli (grow y 1#32 (grow y 2#32 (grow y 4#32 (grow y 8#32 (grow y 16#32 (grow y 32#32 (grow y 64#32
      (grow y 128#32 (broadcast S1024x1 0#32))))))))) (broadcast S1024x1 23#32))

/-- The field the scale is made from: that of one half if `y` has field zero. -/
def base (y : FVec F S1024x1 .f32) : IVec S1024x1 32 :=
  select (cmpi .eq (field y) (broadcast S1024x1 0#32)) (broadcast S1024x1 1056964608#32) (field y)

/-- The scale: the power of two one above the field's. -/
def scale (y : FVec F S1024x1 .f32) : FVec F S1024x1 .f32 :=
  bitcastToFloat .f32 (addi (base y) (broadcast S1024x1 8388608#32))

/-- Its reciprocal, zero where f32 holds none. -/
def inv (y : FVec F S1024x1 .f32) : FVec F S1024x1 .f32 :=
  bitcastToFloat .f32 (maxsi (subi (broadcast S1024x1 2122317824#32) (base y)) (broadcast S1024x1 0#32))

/-- The codes of a group: each value times its row's reciprocal scale, clipped to the range of the format. -/
def codes (g : FVec F S1024x128 .f32) : FVec F S1024x128 .fp8e4m3 :=
  truncf .fp8e4m3 (minimumf (broadcast S1024x128 (Scalar.ofBits .f32 0x43E00000#32))
    (maximumf (broadcast S1024x128 (Scalar.ofBits .f32 0xC3E00000#32))
      (mulf g (broadcastTo S1024x128 (inv (top g)) broadcasts_S1024x1_S1024x128)))) bitsLt_fp8e4m3_f32

/-- The scales after group `k` of column step `n`: lane `4 n + k` at the group's scale, the others as in `s`. -/
def place (n k : BitVec 32) (g : FVec F S1024x128 .f32) (s : FVec F S1024x128 .f32) : FVec F S1024x128 .f32 :=
  select (cmpi .eq (iota .tc S1024x128 32 [1] iota_S1024x128_d1_w32)
      (broadcast S1024x128 (Scalar.addi (Scalar.muli n 4#32) k)))
    (broadcastTo S1024x128 (shapeCast S1024x1 (scale (top g)) shapeCasts_S1024x1_S1024x1) broadcasts_S1024x1_S1024x128) s

/-- The four groups of the tile. -/
def group0 (a : FVec F S1024x512 .f32) : FVec F S1024x128 .f32 := extractStridedSlice S1024x128 ![0, 0] a slices_S1024x512_o0_0_S1024x128
def group1 (a : FVec F S1024x512 .f32) : FVec F S1024x128 .f32 := extractStridedSlice S1024x128 ![0, 128] a slices_S1024x512_o0_128_S1024x128
def group2 (a : FVec F S1024x512 .f32) : FVec F S1024x128 .f32 := extractStridedSlice S1024x128 ![0, 256] a slices_S1024x512_o0_256_S1024x128
def group3 (a : FVec F S1024x512 .f32) : FVec F S1024x128 .f32 := extractStridedSlice S1024x128 ![0, 384] a slices_S1024x512_o0_384_S1024x128

abbrev q0 : Rect S1024x512 := Rect.unit (s := S1024x512) ![0, 0] S1024x128.size inb_S1024x512_S1024x128_0_0
abbrev q1 : Rect S1024x512 := Rect.unit (s := S1024x512) ![0, 128] S1024x128.size inb_S1024x512_S1024x128_0_128
abbrev q2 : Rect S1024x512 := Rect.unit (s := S1024x512) ![0, 256] S1024x128.size inb_S1024x512_S1024x128_0_256
abbrev q3 : Rect S1024x512 := Rect.unit (s := S1024x512) ![0, 384] S1024x128.size inb_S1024x512_S1024x128_0_384
abbrev sAll : Rect S1024x128 := Rect.unit (s := S1024x128) ![0, 0] S1024x128.size inb_S1024x128_S1024x128_0_0

/-- The codes of the tile, from its activation: the four groups' side by side. -/
def tileCodes (a : FVec F S1024x512 .f32) : Vec F S1024x512 .fp8e4m3 :=
  View.canon [⟨q3, codes (group3 a)⟩, ⟨q2, codes (group2 a)⟩, ⟨q1, codes (group1 a)⟩, ⟨q0, codes (group0 a)⟩]

/-- The scales after column step `n`, from the tile's activation and the scales before. -/
def tileScales (n : BitVec 32) (a : FVec F S1024x512 .f32) (s : FVec F S1024x128 .f32) : Vec F S1024x128 .f32 :=
  place n 3#32 (group3 a) (place n 2#32 (group2 a) (place n 1#32 (group1 a) (place n 0#32 (group0 a)
    (shapeCast S1024x128 s shapeCasts_S1024x128_S1024x128))))

theorem tile_covers (p0 p1 p2 p3 : Vec F S1024x128 .fp8e4m3) (y : S1024x512.Idx) :
    ∃ pc ∈ ([⟨q3, p3⟩, ⟨q2, p2⟩, ⟨q1, p1⟩, ⟨q0, p0⟩] : List (View.Piece (Elt F) S1024x512 .fp8e4m3)), y ∈ pc.1.set :=
  View.cover_of_tiled [⟨q3, p3⟩, ⟨q2, p2⟩, ⟨q1, p1⟩, ⟨q0, p0⟩] S1024x128.size (by rfl) y

theorem scales_cover (p : Vec F S1024x128 .f32) (y : S1024x128.Idx) :
    ∃ pc ∈ ([⟨sAll, p⟩] : List (View.Piece (Elt F) S1024x128 .f32)), y ∈ pc.1.set :=
  View.cover_of_tiled [⟨sAll, p⟩] S1024x128.size (by rfl) y

end Cert.KernelIdeal.Step

end
-- ==== Proof.KernelIdealBody.lean ====
/-
  The kernel's body run on its staging buffers: from the five input blocks and the scales of the steps before, the
  codes of the tile and the scales with the tile's four lanes filled in.
-/
module

public import proofs.«01_k».proof.Proof.KernelIdealValues
public import proofs.«01_k».proof.Proof.Gen.KernelIdeal.Frame
public import Idealize.ShloMosaic.Lib.Claim
public import Idealize.ShloMosaic.Lib.Pipeline.DatRel
public import Idealize.ShloMosaic.Lib.Pipeline.ArrRel
public import Idealize.ShloMosaic.Lib.Pipeline.Value

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen

variable {F : FTy → Type} [FloatOps F] [Named F]

local notation "𝕄" => MT nD τ sig Unit (Elt F) ℕ (UR sig nD τ) ℕ

/-- The five blocks as the body loads them, each through the rectangle of the whole buffer, -/
def loaded (x0 : Vec F S1024x12928 .fp8e4m3) (x1 : Vec F S1024x1 .f32) (x2 : Vec F S12928x512 .fp8e4m3) (x3 : Vec F S1x512 .f32)
    (x4 : Vec F S1x512 .bf16) : FVec F S1024x512 .f32 :=
  act (View.ld x0 (Rect.unit (s := S1024x12928) ![0, 0] S1024x12928.size inb_S1024x12928_S1024x12928_0_0))
    (View.ld x1 (Rect.unit (s := S1024x1) ![0, 0] S1024x1.size inb_S1024x1_S1024x1_0_0))
    (View.ld x2 (Rect.unit (s := S12928x512) ![0, 0] S12928x512.size inb_S12928x512_S12928x512_0_0))
    (View.ld x3 (Rect.unit (s := S1x512) ![0, 0] S1x512.size inb_S1x512_S1x512_0_0))
    (View.ld x4 (Rect.unit (s := S1x512) ![0, 0] S1x512.size inb_S1x512_S1x512_0_0))

theorem zeros : (![0, 0] : Fin 2 → Nat) = fun _ => 0 := funext fun a => by fin_cases a <;> rfl

/-- are the blocks. -/
theorem loaded_eq (x0 : Vec F S1024x12928 .fp8e4m3) (x1 : Vec F S1024x1 .f32) (x2 : Vec F S12928x512 .fp8e4m3) (x3 : Vec F S1x512 .f32)
    (x4 : Vec F S1x512 .bf16) : loaded x0 x1 x2 x3 x4 = act x0 x1 x2 x3 x4 := by
  unfold loaded
  rw [View.ld_unit_zero (S := S1024x12928) zeros, View.ld_unit_zero (S := S1024x1) zeros, View.ld_unit_zero (S := S12928x512) zeros,
    View.ld_unit_zero (S := S1x512) zeros, View.ld_unit_zero (S := S1x512) zeros]

set_option maxHeartbeats 4000000 in
/-- The body on whole staging memrefs: the inputs at read contents stay, the codes' buffer, whatever it held, ends at the
    tile's codes, and the scales' buffer at what it held with the tile's lanes filled in. -/
theorem sound_kernel (c : Dev nD) (E : Set ℕ) (i : grid0.Coords)
    (arg0 : Memref sig .tc .vmem S1024x12928 .fp8e4m3) (harg0 : arg0.IsWhole) (arg1 : Memref sig .tc .vmem S1024x1 .f32) (harg1 : arg1.IsWhole)
    (arg2 : Memref sig .tc .vmem S12928x512 .fp8e4m3) (harg2 : arg2.IsWhole) (arg3 : Memref sig .tc .vmem S1x512 .f32) (harg3 : arg3.IsWhole)
    (arg4 : Memref sig .tc .vmem S1x512 .bf16) (harg4 : arg4.IsWhole) (arg5 : Memref sig .tc .vmem S1024x512 .fp8e4m3) (harg5 : arg5.IsWhole)
    (arg6 : Memref sig .tc .vmem S1024x128 .f32) (harg6 : arg6.IsWhole)
    (x0 : Vec F S1024x12928 .fp8e4m3) (x1 : Vec F S1024x1 .f32) (x2 : Vec F S12928x512 .fp8e4m3) (x3 : Vec F S1x512 .f32) (x4 : Vec F S1x512 .bf16)
    (x6 : Vec F S1024x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare x6
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (tileCodes (act x0 x1 x2 x3 x4)) ∗ owns (c : Thread nD τ) arg6 fullShare (tileScales (BitVec.ofNat 32 (i 1).val) (act x0 x1 x2 x3 x4) x6)) -∗ K ⟨⟩))
      ⊢ wp frame (wpE (defs₀ (F := F)) Variants.none c none) E (cc0_linear_gelu_quant i arg0 harg0 arg1 harg1 arg2 harg2 arg3 harg3 arg4 harg4 arg5 harg5 arg6 harg6) K := by
  simp only [cc0_linear_gelu_quant_eq_skeleton]; unfold cc0_linear_gelu_quant_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (tile_covers _ _ _ _)).trans ?_
    rw [← loaded_eq]
    rfl
  iexists _; isplitr
  swap; · iexact H6
  ipureintro
  refine (View.read_writes_eq_canon _ _ _ (scales_cover _)).trans ((View.canon_unit_zero (S := S1024x128) zeros _ _).trans ?_)
  rw [← loaded_eq]
  refine Eq.trans (b := tileScales (BitVec.ofNat 32 ↑(i 1)) _ (View.ld (View.read (Elt F) arg6.view f6) sAll)) rfl ?_
  rw [View.ld_unit_zero (S := S1024x128) zeros]
  rfl

/-! ## The pipeline's proof data -/

variable (m : (ℓ : Loc nD τ sig) → Buf (Elt F) ℓ) (ρ : Dev nD → PrngReg)

/-- The arrays as the region finds them, and what the body leaves in the input buffers: the blocks, those of the weights,
    their scales and the bias on the columns inside the array (the rest is any word). What it leaves in the two output
    buffers is stated by relations, below. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Classical.arbitrary _) (iblk m c 2 t)
    | ⟨3, _⟩ => win0_3.fill (grid0.coords t) (fun _ => Classical.arbitrary _) (iblk m c 3 t)
    | ⟨4, _⟩ => win0_4.fill (grid0.coords t) (fun _ => Classical.arbitrary _) (iblk m c 4 t)
    | ⟨5, _⟩ => fun _ => Classical.arbitrary _
    | ⟨6, _⟩ => fun _ => Classical.arbitrary _
  Φ _ := Pipeline.ΦA spec0 c
  q _ := fullShare
  owed _ := 0

theorem dat_A (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = win0_2.fill (grid0.coords t) (fun _ => Classical.arbitrary _) (iblk m c 2 t) := by dsimp only [dat]
theorem after_3 (c : Dev nD) (t : Fin cfg0.N) : (dat m c).after 3 t = win0_3.fill (grid0.coords t) (fun _ => Classical.arbitrary _) (iblk m c 3 t) := by dsimp only [dat]
theorem after_4 (c : Dev nD) (t : Fin cfg0.N) : (dat m c).after 4 t = win0_4.fill (grid0.coords t) (fun _ => Classical.arbitrary _) (iblk m c 4 t) := by dsimp only [dat]

/-- What the body finds in the input buffers. -/
theorem before_0 (c : Dev nD) (t : Fin cfg0.N) (d) : (dat m c).before 0 t d = iblk m c 0 t :=
  before0_0_of m (dat m c) (dat_A m c 0) (after_0 m c) t d
theorem before_1 (c : Dev nD) (t : Fin cfg0.N) (d) : (dat m c).before 1 t d = iblk m c 1 t :=
  before0_1_of m (dat m c) (dat_A m c 1) (after_1 m c) t d
theorem before_2 (c : Dev nD) (t : Fin cfg0.N) (d) : (dat m c).before 2 t d = win0_2.fill (grid0.coords t) d (iblk m c 2 t) := by
  unfold Dat.before; rw [if_pos (fetch0_2 t)]; unfold Dat.fetched Dat.blockOf iblk; rw [dat_A]
theorem before_3 (c : Dev nD) (t : Fin cfg0.N) (d) : (dat m c).before 3 t d = win0_3.fill (grid0.coords t) d (iblk m c 3 t) := by
  unfold Dat.before; rw [if_pos (fetch0_3 t)]; unfold Dat.fetched Dat.blockOf iblk; rw [dat_A]
theorem before_4 (c : Dev nD) (t : Fin cfg0.N) (d) : (dat m c).before 4 t d = win0_4.fill (grid0.coords t) d (iblk m c 4 t) := by
  unfold Dat.before; rw [if_pos (fetch0_4 t)]; unfold Dat.fetched Dat.blockOf iblk; rw [dat_A]

/-- The activation of point `t`'s tile, if the buffers of the weights, their scales and the bias hold `d2`, `d3`, `d4`
    past the arrays' ends. -/
def actAt (c : Dev nD) (t : Fin cfg0.N) (d2 : Vec F S12928x512 .fp8e4m3) (d3 : Vec F S1x512 .f32) (d4 : Vec F S1x512 .bf16) : FVec F S1024x512 .f32 :=
  act (iblk m c 0 t) (iblk m c 1 t) (win0_2.fill (grid0.coords t) d2 (iblk m c 2 t)) (win0_3.fill (grid0.coords t) d3 (iblk m c 3 t))
    (win0_4.fill (grid0.coords t) d4 (iblk m c 4 t))

/-- The two output windows, whose buffers are held to relations. -/
def marked (w : Fin cfg0.W) : Bool := match w with
  | ⟨5, _⟩ => true
  | ⟨6, _⟩ => true
  | _ => false

variable (P5 : Fin cfg0.N → Vec F S1024x512 .fp8e4m3 → Prop) (P6 : Fin cfg0.N → Vec F S1024x128 .f32 → Prop)

/-- What is said of the codes' buffer (`P5`) and of the scales' (`P6`) after the body at each point. -/
def said (w : Fin cfg0.W) : Fin cfg0.N → ((cfg0.win w).block.Idx → Elt F (cfg0.win w).elt) → Prop := match w with
  | ⟨5, _⟩ => P5
  | ⟨6, _⟩ => P6
  | _ => fun _ _ => True

/-- The proof data with the two output windows held to `P5` and `P6`. -/
abbrev rdat (c : Dev nD) : RDat τ (Elt F) Unit ℕ (UR sig nD τ) ℕ cfg0 c := (dat m c).toRRel marked (said P5 P6)

/-- At a column step after the first the body finds in the scales' buffer what the step before left there. -/
theorem finds_6 (c : Dev nD) (t : Fin cfg0.N) (Y : Vec F S1024x128 .f32) (h : (rdat m P5 P6 c).Finds 6 t Y) (ht : t.val % 25 ≠ 0) :
    P6 ⟨t.val - 1, Nat.lt_of_le_of_lt (Nat.sub_le _ _) t.isLt⟩ Y := by
  rw [RDat.finds_of_pos _ rfl (by omega)] at h
  refine (dat m c).toRRel_leaves (fgt := marked) (Rl := said P5 P6) (w := 6) rfl (h.resolve_left fun hf => ?_)
  have := (flush0_6 _).mp hf
  simp only at this
  omega

/-! ## The body obligation -/

theorem row_eq (t : Fin cfg0.N) : defs₀ (F := F) .tc cfg0.body (cfg0.bodyArgs t (cfg0.slots t)) = bodyAt0 t := by
  unfold defs₀; rw [Defs.onTc_tc]

/-- If the tile's codes satisfy `P5`, and its scales `P6` whenever those before did, whatever the buffers hold past the
    arrays' ends, then the body meets its obligation. -/
theorem body_obligation
    (h5 : ∀ c t d2 d3 d4, P5 t (tileCodes (actAt m c t d2 d3 d4)))
    (h6 : ∀ c (t : Fin cfg0.N) d2 d3 d4 Y, (t.val % 25 ≠ 0 → P6 ⟨t.val - 1, Nat.lt_of_le_of_lt (Nat.sub_le _ _) t.isLt⟩ Y) →
      P6 t (tileScales (BitVec.ofNat 32 (grid0.coords t 1).val) (actAt m c t d2 d3 d4) Y)) (c : Dev nD) :
    BodyObligationRel (dat m c) (defs₀ (F := F)) Variants.none () Set.univ marked (said P5 P6) := fun t => by
  rw [bigSep_W0, bigSep_W0, row_eq]
  simp only [show marked 0 = false from rfl, show marked 1 = false from rfl, show marked 2 = false from rfl, show marked 3 = false from rfl,
    show marked 4 = false from rfl, show marked 5 = true from rfl, show marked 6 = true from rfl]
  rw [show (dat m c).Φ t.succ = (dat m c).Φ t.castSucc from rfl,
    show (dat m c).owesAt () t.succ = (dat m c).owesAt () t.castSucc from rfl]
  iintro ⟨HΦ, Ho, ⟨%d0, H0⟩, ⟨%d1, H1⟩, ⟨%d2, H2⟩, ⟨%d3, H3⟩, ⟨%d4, H4⟩, ⟨%Y5, -, H5⟩, ⟨%Y6, %hY, H6⟩⟩
  rw [before_0, before_1, before_2, before_3, before_4]
  iapply (sound_kernel (F := F) c Set.univ (grid0.coords t) _ _ _ _ _ _ _ _ _ _ _ _ _ _ (iblk m c 0 t) (iblk m c 1 t)
    (win0_2.fill (grid0.coords t) d2 (iblk m c 2 t)) (win0_3.fill (grid0.coords t) d3 (iblk m c 3 t)) (win0_4.fill (grid0.coords t) d4 (iblk m c 4 t)) Y6 _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, H6⟩
  isplitl [HΦ]; · iexact HΦ
  isplitl [Ho]; · iexact Ho
  have e2 : win0_2.cut (grid0.coords t) ((dat m c).after 2 t) = iblk m c 2 t := by rw [after_2]; exact win0_2.cut_fill _ _ _
  have e3 : win0_3.cut (grid0.coords t) ((dat m c).after 3 t) = iblk m c 3 t := by rw [after_3]; exact win0_3.cut_fill _ _ _
  have e4 : win0_4.cut (grid0.coords t) ((dat m c).after 4 t) = iblk m c 4 t := by rw [after_4]; exact win0_4.cut_fill _ _ _
  isplitl [H0]; · rw [after_0]; iexact H0
  isplitl [H1]; · rw [after_1]; iexact H1
  isplitl [H2]
  · iexists d2
    change _ ⊢ owns (c : Thread nD τ) (win0_2.stage (cfg0.slots t 2)) fullShare (win0_2.fill (grid0.coords t) d2 (win0_2.cut (grid0.coords t) ((dat m c).after 2 t)))
    rw [e2]
  isplitl [H3]
  · iexists d3
    change _ ⊢ owns (c : Thread nD τ) (win0_3.stage (cfg0.slots t 3)) fullShare (win0_3.fill (grid0.coords t) d3 (win0_3.cut (grid0.coords t) ((dat m c).after 3 t)))
    rw [e3]
  isplitl [H4]
  · iexists d4
    change _ ⊢ owns (c : Thread nD τ) (win0_4.stage (cfg0.slots t 4)) fullShare (win0_4.fill (grid0.coords t) d4 (win0_4.cut (grid0.coords t) ((dat m c).after 4 t)))
    rw [e4]
  isplitl [H5]
  · iexists _; isplitr
    swap; · iexact H5
    ipureintro; exact h5 c t d2 d3 d4
  · iexists _; isplitr
    swap; · iexact H6
    ipureintro; exact h6 c t d2 d3 d4 Y6 (finds_6 m P5 P6 c t Y6 hY)

/-! ## The run -/

set_option backward.isDefEq.respectTransparency.types false in
set_option maxHeartbeats 800000 in
/-- From any memory with zero counters every fair execution terminates with the arrays as the proof data say. -/
theorem run
    (h5 : ∀ c t d2 d3 d4, P5 t (tileCodes (actAt m c t d2 d3 d4)))
    (h6 : ∀ c (t : Fin cfg0.N) d2 d3 d4 Y, (t.val % 25 ≠ 0 → P6 ⟨t.val - 1, Nat.lt_of_le_of_lt (Nat.sub_le _ _) t.isLt⟩ Y) →
      P6 t (tileScales (BitVec.ofNat 32 (grid0.coords t 1).val) (actAt m c t d2 d3 d4) Y)) :
    θ_run defs (onTc (τ := τ) (main (F := F))) (s₀ m ρ)
      (fun r => Pipeline.RDat.FramePost cfg0 (rdat m P5 P6) (V m) r ∧ r.2.sem = fun _ => 0) :=
  Pipeline.RDat.θ_run_frame (Q' := _) cfgs (0 : Fin 1) launch0 defs₀ Variants.none (rdat m P5 P6) m ρ main
    (hbody := fun c => (body_obligation m P5 P6 h5 h6 c).toRRel) (hshare := fun c => (dat m c).share_full fun _ => rfl)
    (howed := fun _ _ => rfl) (V := V m) (hmain := hmain m Variants.none) (hA := dat_A m) (hΦ := fun _ _ => rfl)

/-- The argument arrays end as they were. -/
theorem args_of_post {r : PUnit × MemSt nD τ sig (Elt F)} (h : Pipeline.RDat.FramePost cfg0 (rdat m P5 P6) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (RDat.FramePost.arr_in h c 2 rfl).trans ((dat_A m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- THE FRAME: the run, saying nothing of the outputs. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of_post m _ _ h.1, h.2⟩)
    (run m ρ (fun _ _ => True) (fun _ _ => True) (fun _ _ _ _ _ => trivial) (fun _ _ _ _ _ _ _ => trivial))

end Cert.KernelIdeal.Step

end
-- ==== Proof.Scales.lean ====
/-
  The scale of a group of values from its largest magnitude `y` (already divided by the format's maximum): as the kernel
  finds it, an exponent field built up by bisection and read as a float, and as the reference states it, through the
  logarithm to base two. The two are the same function of an extended real.
-/
module

public import Idealize.ShloMosaic.Lib.Pointwise
public import Idealize.ShloMosaic.Lib.IdealHost

@[expose] public section
noncomputable section
namespace Cert.Scales
open Idealize.ShloMosaic

/-- The word with exponent field `n` and everything else zero. -/
def word (n : ℕ) : BitVec 32 := IntOp.shli .vector (BitVec.ofNat 32 n) 23#32

/-- The extended real it denotes. -/
def power (n : ℕ) : EReal := Ideal.ofBits .f32 (word n)

theorem word_parts : ∀ n : Fin 256, (word n.val).extractLsb' 31 1 = 0#1 ∧ ((word n.val).extractLsb' 23 8).toNat = n.val
    ∧ ((word n.val).extractLsb' 0 23).toNat = 0 := by decide +kernel

theorem power_mid (n : ℕ) (h1 : 1 ≤ n) (h2 : n ≤ 254) : power n = (((2 : ℝ) ^ ((n : ℤ) - 127) : ℝ) : EReal) := by
  obtain ⟨a, b, c⟩ := word_parts ⟨n, by omega⟩
  simp only at a b c
  unfold power Ideal.ofBits Ideal.ieee
  simp only [Nat.reduceAdd, a, b, c]
  rw [if_neg (by omega), if_neg (by omega)]
  refine congrArg Real.toEReal ?_
  norm_num
  rw [show (8388608 : ℝ) = (2 : ℝ) ^ (23 : ℤ) by norm_num, ← zpow_add₀ (by norm_num)]
  refine congrArg (fun k : ℤ => (2 : ℝ) ^ k) ?_
  ring

theorem power_top : power 255 = ⊤ := by
  obtain ⟨a, b, c⟩ := word_parts ⟨255, by omega⟩
  simp only at a b c
  unfold power Ideal.ofBits Ideal.ieee
  simp only [Nat.reduceAdd, a, b, c]
  simp

/-- One past the largest field is the sign bit alone: a zero. -/
theorem power_past : power 256 = 0 := by
  have a : (word 256).extractLsb' 31 1 = 1#1 := by decide +kernel
  have b : ((word 256).extractLsb' 23 8).toNat = 0 := by decide +kernel
  have c : ((word 256).extractLsb' 0 23).toNat = 0 := by decide +kernel
  unfold power Ideal.ofBits Ideal.ieee
  simp only [Nat.reduceAdd, a, b, c]
  simp

theorem power_zero : power 0 = 0 := by
  obtain ⟨a, b, c⟩ := word_parts ⟨0, by omega⟩
  simp only at a b c
  unfold power Ideal.ofBits Ideal.ieee
  simp only [Nat.reduceAdd, a, b, c]
  simp

/-! ### As the kernel has it -/

/-- One step of the search for the field of `y`. -/
def grow (y : EReal) (k e : BitVec 32) : BitVec 32 :=
  if Ideal.ofBits .f32 (IntOp.shli .vector (IntOp.addi e k) 23#32) ≤ y then IntOp.addi e k else e

def field (y : EReal) : BitVec 32 :=
  IntOp.shli .vector (grow y 1#32 (grow y 2#32 (grow y 4#32 (grow y 8#32 (grow y 16#32 (grow y 32#32 (grow y 64#32
    (grow y 128#32 0#32)))))))) 23#32

def base (w : BitVec 32) : BitVec 32 := Scalar.select (IntOp.cmpi .eq w 0#32) 1056964608#32 w

def scaleBits (w : BitVec 32) : BitVec 32 := IntOp.addi (base w) 8388608#32

def invBits (w : BitVec 32) : BitVec 32 := IntOp.maxsi (IntOp.subi 2122317824#32 (base w)) 0#32

def scale (y : EReal) : EReal := Ideal.ofBits .f32 (scaleBits (field y))

def inv (y : EReal) : EReal := Ideal.ofBits .f32 (invBits (field y))

/-! ### As the reference has it -/

/-- The exponent: `2 ^ (e - 1) ≤ y < 2 ^ e`, and `0` where `y` is below the least normal f32. -/
def expo (y : EReal) : EReal :=
  if y < Ideal.ofBits .f32 0x00800000#32 then 0
  else Ideal.liftRound Int.floor (Ideal.div (Ideal.log y) (Ideal.log (Ideal.ofBits .f32 0x40000000#32))) + 1

def refScale (y : EReal) : EReal :=
  if expo y ≤ Ideal.ofBits .f32 0x42FE0000#32 then Ideal.exp2 (expo y)
  else if y < Ideal.ofBits .f32 0x7F800000#32 then Ideal.ofBits .f32 0x7F800000#32 else 0

def refInv (y : EReal) : EReal :=
  if expo y ≤ Ideal.ofBits .f32 0x42FC0000#32 then Ideal.exp2 (0 - expo y) else 0

/-! ### The search -/

def growN (y : EReal) (k n : ℕ) : ℕ := if power (n + k) ≤ y then n + k else n

theorem grow_eq (y : EReal) (k n : ℕ) : grow y (BitVec.ofNat 32 k) (BitVec.ofNat 32 n) = BitVec.ofNat 32 (growN y k n) := by
  unfold grow growN power word
  have h : IntOp.addi (BitVec.ofNat 32 n) (BitVec.ofNat 32 k) = BitVec.ofNat 32 (n + k) := (BitVec.ofNat_add ..).symm
  rw [h]
  split <;> rfl

/-- The field lies in `[n, n + g)`. -/
def Within (y : EReal) (g n : ℕ) : Prop := n + g ≤ 256 ∧ (n = 0 ∨ power n ≤ y) ∧ (n + g = 256 ∨ y < power (n + g))

theorem Within.step {y : EReal} {g n : ℕ} (k : ℕ) (hg : g = 2 * k) (h : Within y g n) : Within y k (growN y k n) := by
  subst hg
  obtain ⟨h1, h2, h3⟩ := h
  unfold growN
  split
  · rename_i hle
    refine ⟨by omega, .inr hle, ?_⟩
    rwa [show n + k + k = n + 2 * k by omega]
  · rename_i hle
    exact ⟨by omega, h2, .inr (not_le.mp hle)⟩

/-- The search ends at the field `n` with `2 ^ (n - 127) ≤ y < 2 ^ (n - 126)`. -/
theorem field_spec (y : EReal) : ∃ n : ℕ, n ≤ 255 ∧ field y = word n ∧ (n = 0 ∨ power n ≤ y) ∧ (n = 255 ∨ y < power (n + 1)) := by
  have h0 : Within y 256 0 := ⟨by omega, .inl rfl, .inl rfl⟩
  have h := ((((((((h0.step 128 rfl).step 64 rfl).step 32 rfl).step 16 rfl).step 8 rfl).step 4 rfl).step 2 rfl).step 1 rfl)
  obtain ⟨a, b, c⟩ := h
  refine ⟨_, by omega, ?_, b, ?_⟩
  · unfold field word
    rw [grow_eq y 128 0, grow_eq y 64, grow_eq y 32, grow_eq y 16, grow_eq y 8, grow_eq y 4, grow_eq y 2, grow_eq y 1]
  · rcases c with c | c
    · exact .inl (by omega)
    · exact .inr c

theorem scaleBits_word : ∀ n : Fin 256, scaleBits (word n.val) = word (if n.val = 0 then 127 else n.val + 1) := by decide +kernel

theorem invBits_word : ∀ n : Fin 256, invBits (word n.val) = word (if n.val = 0 then 127 else 253 - n.val) := by decide +kernel

/-! ### The constants -/

theorem least_normal : Ideal.ofBits .f32 0x00800000#32 = (((2 : ℝ) ^ (-126 : ℤ) : ℝ) : EReal) := by
  have := power_mid 1 (by omega) (by omega)
  rw [show (0x00800000#32) = word 1 by decide +kernel]
  rw [power] at this; rw [this]; norm_num

theorem infinity : Ideal.ofBits .f32 0x7F800000#32 = ⊤ := by
  rw [show (0x7F800000#32) = word 255 by decide +kernel]; exact power_top

theorem two : Ideal.ofBits .f32 0x40000000#32 = ((2 : ℝ) : EReal) := by
  have := power_mid 128 (by omega) (by omega)
  rw [show (0x40000000#32) = word 128 by decide +kernel]
  rw [power] at this; rw [this]; norm_num

theorem c127 : Ideal.ofBits .f32 0x42FE0000#32 = ((127 : ℝ) : EReal) := by
  have a : (0x42FE0000#32).extractLsb' 31 1 = 0#1 := by decide +kernel
  have b : ((0x42FE0000#32).extractLsb' 23 8).toNat = 133 := by decide +kernel
  have c : ((0x42FE0000#32).extractLsb' 0 23).toNat = 8257536 := by decide +kernel
  unfold Ideal.ofBits Ideal.ieee
  simp only [Nat.reduceAdd, a, b, c]
  rw [if_neg (by norm_num), if_neg (by norm_num)]
  congr 1
  norm_num

theorem c126 : Ideal.ofBits .f32 0x42FC0000#32 = ((126 : ℝ) : EReal) := by
  have a : (0x42FC0000#32).extractLsb' 31 1 = 0#1 := by decide +kernel
  have b : ((0x42FC0000#32).extractLsb' 23 8).toNat = 133 := by decide +kernel
  have c : ((0x42FC0000#32).extractLsb' 0 23).toNat = 8126464 := by decide +kernel
  unfold Ideal.ofBits Ideal.ieee
  simp only [Nat.reduceAdd, a, b, c]
  rw [if_neg (by norm_num), if_neg (by norm_num)]
  congr 1
  norm_num

/-! ### The two agree -/

theorem expo_small {y : EReal} (h : y < power 1) : expo y = 0 := by
  rw [expo, if_pos]
  rw [least_normal]
  rw [power_mid 1 (by omega) (by omega)] at h
  norm_num at h ⊢; exact h

/-- At a real `y` at least the least normal, the exponent is one above the floor of its logarithm. -/
theorem expo_real {r : ℝ} (h : (2 : ℝ) ^ (-126 : ℤ) ≤ r) :
    expo (r : EReal) = ((((⌊Real.log r / Real.log 2⌋ + 1 : ℤ) : ℝ)) : EReal) := by
  have hpos : 0 < r := lt_of_lt_of_le (by positivity) h
  have hl : Real.log 2 ≠ 0 := (Real.log_pos (by norm_num)).ne'
  rw [expo, least_normal, if_neg (by rw [not_lt]; exact_mod_cast h), two, Ideal.log_coe, if_neg (by linarith), Ideal.log_coe,
    if_neg (by norm_num), Ideal.div_coe hl, ← EReal.coe_mul, Ideal.liftRound_coe]
  rw [← EReal.coe_one, ← EReal.coe_add]
  congr 1
  push_cast
  rw [mul_one_div]

theorem expo_top : expo ⊤ = ⊤ := by
  have hl : Real.log 2 ≠ 0 := (Real.log_pos (by norm_num)).ne'
  have hp : (0 : ℝ) < 1 / Real.log 2 := by have := Real.log_pos (show (1 : ℝ) < 2 by norm_num); positivity
  rw [expo, least_normal, if_neg (by simp), two, Ideal.log_top, Ideal.log_coe,
    if_neg (by norm_num), Ideal.div_coe hl, EReal.top_mul_coe_of_pos hp, Ideal.liftRound_top]
  rw [← EReal.coe_one, EReal.top_add_coe]

theorem floor_log {r : ℝ} {k : ℤ} (h1 : (2 : ℝ) ^ k ≤ r) (h2 : r < (2 : ℝ) ^ (k + 1)) : ⌊Real.log r / Real.log 2⌋ = k := by
  have hl : 0 < Real.log 2 := Real.log_pos (by norm_num)
  have hpos : 0 < r := lt_of_lt_of_le (by positivity) h1
  rw [Int.floor_eq_iff]
  constructor
  · rw [le_div_iff₀ hl, ← Real.log_zpow]
    exact Real.log_le_log (by positivity) h1
  · rw [div_lt_iff₀ hl]
    have := Real.log_lt_log hpos h2
    rw [Real.log_zpow] at this
    push_cast at this ⊢; exact this

theorem le_floor_log {r : ℝ} {k : ℤ} (h1 : (2 : ℝ) ^ k ≤ r) : k ≤ ⌊Real.log r / Real.log 2⌋ := by
  have hl : 0 < Real.log 2 := Real.log_pos (by norm_num)
  rw [Int.le_floor, le_div_iff₀ hl, ← Real.log_zpow]
  exact Real.log_le_log (by positivity) h1

theorem exp2_int (k : ℤ) : Ideal.exp2 (((k : ℝ)) : EReal) = (((2 : ℝ) ^ k : ℝ) : EReal) := by
  rw [Ideal.exp2_coe]; congr 1; exact Real.rpow_intCast 2 k

theorem exp2_zero : Ideal.exp2 0 = 1 := by
  have := exp2_int 0; norm_num at this; exact this

theorem power_127 : power 127 = 1 := by
  have := power_mid 127 (by omega) (by omega); norm_num at this; exact this

theorem zero_sub_int (k : ℤ) : (0 : EReal) - ((k : ℝ) : EReal) = (((-k : ℤ) : ℝ) : EReal) := by
  rw [← EReal.coe_zero, ← EReal.coe_sub]; congr 1; push_cast; ring

theorem zpow_mono {a b : ℤ} (h : a ≤ b) : (2 : ℝ) ^ a ≤ (2 : ℝ) ^ b := zpow_le_zpow_right₀ (by norm_num) h

/-- The kernel's scale and reciprocal are the reference's. -/
theorem agree (y : EReal) : scale y = refScale y ∧ inv y = refInv y := by
  obtain ⟨n, hn, hf, hlo, hhi⟩ := field_spec y
  have hs : scale y = power (if n = 0 then 127 else n + 1) := by
    rw [scale, hf, scaleBits_word ⟨n, by omega⟩, power]
  have hi : inv y = power (if n = 0 then 127 else 253 - n) := by
    rw [inv, hf, invBits_word ⟨n, by omega⟩, power]
  rw [hs, hi]
  by_cases h0 : n = 0
  · subst h0
    have hy : y < power 1 := hhi.resolve_left (by omega)
    have g1 : (0 : EReal) ≤ ((127 : ℝ) : EReal) := by exact_mod_cast (by norm_num : (0 : ℝ) ≤ 127)
    have g2 : (0 : EReal) ≤ ((126 : ℝ) : EReal) := by exact_mod_cast (by norm_num : (0 : ℝ) ≤ 126)
    rw [refScale, refInv, expo_small hy, c127, c126, if_pos rfl, if_pos g1, if_pos g2, sub_zero, exp2_zero, if_pos rfl, power_127]
    exact ⟨rfl, rfl⟩
  have hle := hlo.resolve_left h0
  simp only [if_neg h0]
  by_cases h255 : n = 255
  · subst h255
    have hy : y = ⊤ := by rw [power_top] at hle; exact top_le_iff.mp hle
    subst hy
    rw [refScale, refInv, expo_top, c127, c126, infinity, if_neg (by simp), if_neg (by simp), if_neg (by simp)]
    exact ⟨power_past, power_zero⟩
  have hlt := hhi.resolve_left h255
  rw [power_mid n (by omega) (by omega)] at hle
  have hyt : y ≠ ⊤ := fun e => by rw [e] at hlt; exact not_top_lt hlt
  have hyb : y ≠ ⊥ := fun e => by rw [e] at hle; simp at hle
  lift y to ℝ using ⟨hyt, hyb⟩
  have hle : (2 : ℝ) ^ ((n : ℤ) - 127) ≤ y := by exact_mod_cast hle
  have hnorm : (2 : ℝ) ^ (-126 : ℤ) ≤ y := (zpow_mono (by omega)).trans hle
  rw [refScale, refInv, expo_real hnorm, c127, c126, infinity]
  by_cases h254 : n = 254
  · subst h254
    have hk := le_floor_log hle
    have hk' : (128 : ℤ) ≤ ⌊Real.log y / Real.log 2⌋ + 1 := by norm_num at hk; omega
    have hk'' : (128 : ℝ) ≤ ((⌊Real.log y / Real.log 2⌋ + 1 : ℤ) : ℝ) := by exact_mod_cast hk'
    have g1 : ¬ (((⌊Real.log y / Real.log 2⌋ + 1 : ℤ) : ℝ) : EReal) ≤ ((127 : ℝ) : EReal) := by
      rw [EReal.coe_le_coe_iff]; linarith
    have g2 : ¬ (((⌊Real.log y / Real.log 2⌋ + 1 : ℤ) : ℝ) : EReal) ≤ ((126 : ℝ) : EReal) := by
      rw [EReal.coe_le_coe_iff]; linarith
    rw [if_neg g1, if_neg g2, if_pos (EReal.coe_lt_top _)]
    exact ⟨power_top, power_zero⟩
  rw [power_mid (n + 1) (by omega) (by omega)] at hlt
  have hlt : y < (2 : ℝ) ^ ((n : ℤ) - 127 + 1) := by
    have : y < (2 : ℝ) ^ (((n + 1 : ℕ) : ℤ) - 127) := by exact_mod_cast hlt
    rwa [show (n : ℤ) - 127 + 1 = ((n + 1 : ℕ) : ℤ) - 127 by push_cast; ring]
  rw [floor_log hle hlt]
  have hc : ((((n : ℤ) - 127 + 1 : ℤ) : ℝ) : EReal) ≤ ((127 : ℝ) : EReal) := by
    have : (n : ℤ) - 127 + 1 ≤ 127 := by omega
    exact_mod_cast this
  rw [if_pos hc, exp2_int, zero_sub_int, exp2_int]
  constructor
  · rw [power_mid (n + 1) (by omega) (by omega)]
    congr 2
    push_cast; ring
  by_cases h253 : n = 253
  · subst h253
    rw [if_neg]
    · exact power_zero
    · rw [not_le]; norm_num
  · have hc : ((((n : ℤ) - 127 + 1 : ℤ) : ℝ) : EReal) ≤ ((126 : ℝ) : EReal) := by
      have : (n : ℤ) - 127 + 1 ≤ 126 := by omega
      exact_mod_cast this
    rw [if_pos hc, power_mid (253 - n) (by omega) (by omega)]
    congr 2
    omega

end Cert.Scales
-- ==== Proof.Gelu.lean ====
/-
  The activation of one value `h`, in its two spellings: as the kernel computes it (Horner's scheme, the exponential to
  base two, one expression for both signs) and as the reference states it. They are the same function of an extended real.
-/
module

public import proofs.«01_k».proof.KernelIdeal
public import Idealize.ShloMosaic.Lib.Pointwise
public import Idealize.ShloMosaic.Lib.IdealHost

@[expose] public section
noncomputable section
namespace Cert.Gelu
open Idealize.ShloMosaic

/-- The kernel's activation. -/
def kernel (h : EReal) : EReal :=
  let a : EReal := FloatOps.absf (F := Ideal) (φ := .f32) h
  let t : EReal := Ideal.div 1 (1 + Named.named (F := Ideal) (φ := .f32) Cert.KernelIdeal.κ "erfc_rate" 0x3E87C3B6#32 * a)
  let e : EReal := FloatOps.exp2 (F := Ideal) (φ := .f32) (h * h * Named.named (F := Ideal) (φ := .f32) Cert.KernelIdeal.κ "neg_half_log2e" 0xBF38AA3B#32)
  max h 0 - a * t * (((((((((Ideal.ofBits .f32 0x3CFCB5C1#32 * t + Ideal.ofBits .f32 0xBE137EB7#32) * t
    + Ideal.ofBits .f32 0x3E5E2788#32) * t + Ideal.ofBits .f32 0xBDEC9FC4#32) * t + Ideal.ofBits .f32 0x3E0CB887#32) * t
    + Ideal.ofBits .f32 0x3D77E302#32) * t + Ideal.ofBits .f32 0x3DD25C63#32) * t + Ideal.ofBits .f32 0x3DD7B04E#32) * t
    + Ideal.ofBits .f32 0x3DD8B173#32) * e)

/-- The reference's. -/
def reference (h : EReal) : EReal :=
  let z : EReal := Ideal.div (FloatOps.absf (F := Ideal) (φ := .f32) h)
    (Scalar.sqrt (F := Ideal) (φ := .f32) (Ideal.ofBits .f32 0x40000000#32))
  let t : EReal := Ideal.div 1 (1 + Ideal.ofBits .f32 0x3EC00000#32 * z)
  let s : EReal := 0 + Ideal.ofBits .f32 0x3DD8B173#32 * t + Ideal.ofBits .f32 0x3DD7B04E#32 * (t * t)
    + Ideal.ofBits .f32 0x3DD25C63#32 * (t * t * t) + Ideal.ofBits .f32 0x3D77E302#32 * (t * t * t * t)
    + Ideal.ofBits .f32 0x3E0CB887#32 * (t * t * t * t * t) + Ideal.ofBits .f32 0xBDEC9FC4#32 * (t * t * t * t * t * t)
    + Ideal.ofBits .f32 0x3E5E2788#32 * (t * t * t * t * t * t * t)
    + Ideal.ofBits .f32 0xBE137EB7#32 * (t * t * t * t * t * t * t * t)
    + Ideal.ofBits .f32 0x3CFCB5C1#32 * (t * t * t * t * t * t * t * t * t)
  let tail : EReal := s * Ideal.exp (0 - z * z)
  if 0 ≤ h then h - h * tail else h * tail

theorem rate : Named.named (F := Ideal) (φ := .f32) Cert.KernelIdeal.κ "erfc_rate" 0x3E87C3B6#32
    = ((3 / 8 * (Real.sqrt 2)⁻¹ : ℝ) : EReal) := rfl

theorem half : Named.named (F := Ideal) (φ := .f32) Cert.KernelIdeal.κ "neg_half_log2e" 0xBF38AA3B#32
    = ((-(1 / 2 * (Real.log 2)⁻¹) : ℝ) : EReal) := rfl

theorem coe_max (a b : ℝ) : ((max a b : ℝ) : EReal) = max (a : EReal) (b : EReal) := EReal.coe_strictMono.monotone.map_max

theorem absf_coe (r : ℝ) : FloatOps.absf (F := Ideal) (φ := .f32) (r : EReal) = ((|r| : ℝ) : EReal) := by
  show max (r : EReal) (-(r : EReal)) = _
  rw [← EReal.coe_neg, ← coe_max]; rfl

theorem absf_top : FloatOps.absf (F := Ideal) (φ := .f32) (⊤ : EReal) = (⊤ : EReal) := by
  show max (⊤ : EReal) (-⊤) = _
  simp

theorem absf_bot : FloatOps.absf (F := Ideal) (φ := .f32) (⊥ : EReal) = (⊤ : EReal) := by
  show max (⊥ : EReal) (-⊥) = _
  simp

/-- A pattern whose exponent field is not all ones denotes a real. -/
theorem finite (b : BitVec 32) (h : (b.extractLsb' 23 8).toNat ≠ 255) : ∃ r : ℝ, Ideal.ofBits .f32 b = (r : EReal) := by
  unfold Ideal.ofBits Ideal.ieee
  simp only
  rw [if_neg (by simpa using h)]
  split
  · exact ⟨_, rfl⟩
  · exact ⟨_, rfl⟩

theorem two : Ideal.ofBits .f32 0x40000000#32 = ((2 : ℝ) : EReal) := by
  have a : (0x40000000#32).extractLsb' 31 1 = 0#1 := by decide +kernel
  have b : ((0x40000000#32).extractLsb' 23 8).toNat = 128 := by decide +kernel
  have c : ((0x40000000#32).extractLsb' 0 23).toNat = 0 := by decide +kernel
  unfold Ideal.ofBits Ideal.ieee
  simp only [Nat.reduceAdd, a, b, c]
  rw [if_neg (by norm_num), if_neg (by norm_num)]
  refine congrArg Real.toEReal ?_
  norm_num

theorem three_eighths : Ideal.ofBits .f32 0x3EC00000#32 = ((3 / 8 : ℝ) : EReal) := by
  have a : (0x3EC00000#32).extractLsb' 31 1 = 0#1 := by decide +kernel
  have b : ((0x3EC00000#32).extractLsb' 23 8).toNat = 125 := by decide +kernel
  have c : ((0x3EC00000#32).extractLsb' 0 23).toNat = 4194304 := by decide +kernel
  unfold Ideal.ofBits Ideal.ieee
  simp only [Nat.reduceAdd, a, b, c]
  rw [if_neg (by norm_num), if_neg (by norm_num)]
  refine congrArg Real.toEReal ?_
  norm_num

theorem sqrt_two : Scalar.sqrt (F := Ideal) (φ := .f32) (Ideal.ofBits .f32 0x40000000#32) = ((Real.sqrt 2 : ℝ) : EReal) := by
  show Ideal.sqrt (Ideal.ofBits .f32 0x40000000#32) = _
  rw [two, Ideal.sqrt_coe, if_neg (by norm_num)]

theorem div_one_coe {y : ℝ} (h : y ≠ 0) : Ideal.div 1 (y : EReal) = ((y⁻¹ : ℝ) : EReal) := by
  rw [Ideal.div_coe h, one_mul, one_div]

theorem div_one_top : Ideal.div 1 ⊤ = 0 := by
  rw [Ideal.div, if_neg (by simp), EReal.inv_top, mul_zero]

/-- The coefficients as reals. -/
theorem coefficients : ∃ c0 c1 c2 c3 c4 c5 c6 c7 c8 : ℝ,
    Ideal.ofBits .f32 0x3DD8B173#32 = (c0 : EReal) ∧ Ideal.ofBits .f32 0x3DD7B04E#32 = (c1 : EReal)
    ∧ Ideal.ofBits .f32 0x3DD25C63#32 = (c2 : EReal) ∧ Ideal.ofBits .f32 0x3D77E302#32 = (c3 : EReal)
    ∧ Ideal.ofBits .f32 0x3E0CB887#32 = (c4 : EReal) ∧ Ideal.ofBits .f32 0xBDEC9FC4#32 = (c5 : EReal)
    ∧ Ideal.ofBits .f32 0x3E5E2788#32 = (c6 : EReal) ∧ Ideal.ofBits .f32 0xBE137EB7#32 = (c7 : EReal)
    ∧ Ideal.ofBits .f32 0x3CFCB5C1#32 = (c8 : EReal) := by
  obtain ⟨c0, h0⟩ := finite 0x3DD8B173#32 (by decide +kernel)
  obtain ⟨c1, h1⟩ := finite 0x3DD7B04E#32 (by decide +kernel)
  obtain ⟨c2, h2⟩ := finite 0x3DD25C63#32 (by decide +kernel)
  obtain ⟨c3, h3⟩ := finite 0x3D77E302#32 (by decide +kernel)
  obtain ⟨c4, h4⟩ := finite 0x3E0CB887#32 (by decide +kernel)
  obtain ⟨c5, h5⟩ := finite 0xBDEC9FC4#32 (by decide +kernel)
  obtain ⟨c6, h6⟩ := finite 0x3E5E2788#32 (by decide +kernel)
  obtain ⟨c7, h7⟩ := finite 0xBE137EB7#32 (by decide +kernel)
  obtain ⟨c8, h8⟩ := finite 0x3CFCB5C1#32 (by decide +kernel)
  exact ⟨c0, c1, c2, c3, c4, c5, c6, c7, c8, h0, h1, h2, h3, h4, h5, h6, h7, h8⟩

theorem sqrt_two_pos : 0 < Real.sqrt 2 := Real.sqrt_pos.mpr (by norm_num)

theorem kernel_rate (r : ℝ) : Ideal.div 1 (1 + ((3 / 8 * (Real.sqrt 2)⁻¹ : ℝ) : EReal) * ((|r| : ℝ) : EReal))
    = (((1 + 3 / 8 * (Real.sqrt 2)⁻¹ * |r|)⁻¹ : ℝ) : EReal) := by
  have := sqrt_two_pos
  rw [← EReal.coe_mul, ← EReal.coe_one, ← EReal.coe_add, EReal.coe_one, div_one_coe (by positivity)]

theorem reference_arg (r : ℝ) : Ideal.div ((|r| : ℝ) : EReal) ((Real.sqrt 2 : ℝ) : EReal) = ((|r| * (Real.sqrt 2)⁻¹ : ℝ) : EReal) := by
  rw [Ideal.div_coe sqrt_two_pos.ne', ← EReal.coe_mul, one_div]

theorem reference_rate (r : ℝ) : Ideal.div 1 (1 + ((3 / 8 : ℝ) : EReal) * ((|r| * (Real.sqrt 2)⁻¹ : ℝ) : EReal))
    = (((1 + 3 / 8 * (Real.sqrt 2)⁻¹ * |r|)⁻¹ : ℝ) : EReal) := by
  have := sqrt_two_pos
  rw [← EReal.coe_mul, ← EReal.coe_one, ← EReal.coe_add, EReal.coe_one, div_one_coe (by positivity)]
  congr 2; ring

theorem kernel_exp (r : ℝ) : FloatOps.exp2 (F := Ideal) (φ := .f32) ((r : EReal) * (r : EReal) * ((-(1 / 2 * (Real.log 2)⁻¹) : ℝ) : EReal))
    = ((Real.exp (-(r * r / 2)) : ℝ) : EReal) := by
  show Ideal.exp2 _ = _
  have hl : Real.log 2 ≠ 0 := (Real.log_pos (by norm_num)).ne'
  rw [← EReal.coe_mul, ← EReal.coe_mul, Ideal.exp2_coe]
  refine congrArg Real.toEReal ?_
  rw [Real.rpow_eq_pow, Real.rpow_def_of_pos (by norm_num)]
  congr 1
  field_simp

theorem reference_exp (r : ℝ) : Ideal.exp (0 - ((|r| * (Real.sqrt 2)⁻¹ : ℝ) : EReal) * ((|r| * (Real.sqrt 2)⁻¹ : ℝ) : EReal))
    = ((Real.exp (-(r * r / 2)) : ℝ) : EReal) := by
  rw [← EReal.coe_mul, ← EReal.coe_zero, ← EReal.coe_sub, Ideal.exp_coe]
  congr 2
  have h2 : Real.sqrt 2 * Real.sqrt 2 = 2 := Real.mul_self_sqrt (by norm_num)
  have hr : |r| * |r| = r * r := abs_mul_abs_self r
  have : |r| * (Real.sqrt 2)⁻¹ * (|r| * (Real.sqrt 2)⁻¹) = (|r| * |r|) * (Real.sqrt 2 * Real.sqrt 2)⁻¹ := by
    rw [mul_inv]; ring
  rw [this, h2, hr]; ring

theorem agree_real (r : ℝ) : kernel (r : EReal) = reference (r : EReal) := by
  obtain ⟨c0, c1, c2, c3, c4, c5, c6, c7, c8, h0, h1, h2, h3, h4, h5, h6, h7, h8⟩ := coefficients
  simp only [kernel, reference, h0, h1, h2, h3, h4, h5, h6, h7, h8, rate, half, sqrt_two, three_eighths, absf_coe]
  rw [kernel_rate, kernel_exp, reference_arg, reference_rate, reference_exp]
  generalize (1 + 3 / 8 * (Real.sqrt 2)⁻¹ * |r|)⁻¹ = T
  generalize Real.exp (-(r * r / 2)) = E
  simp only [← EReal.coe_zero, ← EReal.coe_mul, ← EReal.coe_add, ← EReal.coe_sub, ← coe_max, EReal.coe_le_coe_iff]
  split
  · rename_i hr
    rw [max_eq_left hr, abs_of_nonneg hr]
    congr 1; ring
  · rename_i hr
    have hr := (not_le.mp hr).le
    rw [max_eq_right hr, abs_of_nonpos hr]
    congr 1; ring

theorem rate_pos : (0 : ℝ) < 3 / 8 * (Real.sqrt 2)⁻¹ := by have := sqrt_two_pos; positivity

theorem one_add_top : (1 : EReal) + ⊤ = ⊤ := by rw [← EReal.coe_one, EReal.coe_add_top]

/-- At either infinity the tail is zero. -/
theorem kernel_infinite (h : EReal) (ha : FloatOps.absf (F := Ideal) (φ := .f32) h = (⊤ : EReal)) (hh : h * h = ⊤) : kernel h = max h 0 := by
  obtain ⟨c0, c1, c2, c3, c4, c5, c6, c7, c8, h0, h1, h2, h3, h4, h5, h6, h7, h8⟩ := coefficients
  have hneg : -(1 / 2 * (Real.log 2)⁻¹) < (0 : ℝ) := by
    have := Real.log_pos (show (1 : ℝ) < 2 by norm_num); rw [neg_lt_zero]; positivity
  have he : FloatOps.exp2 (F := Ideal) (φ := .f32) ((⊤ : EReal) * ((-(1 / 2 * (Real.log 2)⁻¹) : ℝ) : EReal)) = (0 : EReal) := by
    rw [EReal.top_mul_coe_of_neg hneg]; rfl
  simp only [kernel, ha, hh, rate, half, EReal.coe_mul_top_of_pos rate_pos, one_add_top, div_one_top, he, mul_zero, zero_mul, sub_zero]

theorem reference_infinite (h : EReal) (ha : FloatOps.absf (F := Ideal) (φ := .f32) h = (⊤ : EReal)) :
    reference h = if 0 ≤ h then h else 0 := by
  have hz : Ideal.div (⊤ : EReal) ((Real.sqrt 2 : ℝ) : EReal) = ⊤ := by
    rw [Ideal.div_coe sqrt_two_pos.ne', EReal.top_mul_coe_of_pos (by have := sqrt_two_pos; positivity)]
  simp only [reference, ha, sqrt_two, three_eighths, hz, EReal.coe_mul_top_of_pos (show (0 : ℝ) < 3 / 8 by norm_num), one_add_top,
    div_one_top, mul_zero, zero_mul, add_zero, sub_zero]

/-- The kernel's activation is the reference's. -/
theorem agree (h : EReal) : kernel h = reference h := by
  induction h with
  | bot => rw [kernel_infinite _ absf_bot (by simp), reference_infinite _ absf_bot]; simp
  | top => rw [kernel_infinite _ absf_top (by simp), reference_infinite _ absf_top]; simp
  | coe r => exact agree_real r

end Cert.Gelu
-- ==== Proof.Quantised.lean ====
/-
  The result as one function of the arguments, entry by entry: the activation of a row and a column, the largest magnitude
  of a row's group of 128 columns, the group's scale and the codes.
-/
module

public import proofs.«01_k».proof.Proof.Scales
public import proofs.«01_k».proof.Proof.Gelu

@[expose] public section
noncomputable section
namespace Cert.Quantised
open Idealize.ShloMosaic

/-- The value before the activation: the product's entry, scaled by its row and by its column, plus the column's bias. -/
def pre {M N : ℕ} (x : (⟨2, ![M, 12928]⟩ : Shape).Idx → EReal) (xs : (⟨2, ![M, 1]⟩ : Shape).Idx → EReal)
    (w : (⟨2, ![12928, N]⟩ : Shape).Idx → EReal) (ws b : (⟨2, ![1, N]⟩ : Shape).Idx → EReal) (r : Fin M) (n : Fin N) : EReal :=
  (∑ k : Fin 12928, x (ix2 r k) * w (ix2 k n)) * xs (ix2 r 0) * ws (ix2 0 n) + b (ix2 0 n)

/-- The largest magnitude in a group, times the f32 nearest 1/448. -/
def top (g : Fin 128 → EReal) : EReal :=
  Finset.univ.fold max (Ideal.ofBits .f32 0xFF800000#32) (fun k => FloatOps.absf (F := Ideal) (φ := .f32) (g k))
    * Ideal.ofBits .f32 0x3B124925#32

/-- A code: the value times the reciprocal scale, clipped to the range of the format. -/
def code (s v : EReal) : EReal :=
  min (Ideal.ofBits .f32 0x43E00000#32) (max (Ideal.ofBits .f32 0xC3E00000#32) (v * s))

/-- Column `l` of group `k`. -/
def column (k : Fin 97) (l : Fin 128) : Fin 12416 := ⟨k.val * 128 + l.val, by omega⟩

/-- The group that a column is in. -/
def groupOf (n : Fin 12416) : Fin 97 := ⟨n.val / 128, by omega⟩

section
variable (x : (⟨2, ![24576, 12928]⟩ : Shape).Idx → EReal) (xs : (⟨2, ![24576, 1]⟩ : Shape).Idx → EReal)
  (w : (⟨2, ![12928, 12416]⟩ : Shape).Idx → EReal) (ws b : (⟨2, ![1, 12416]⟩ : Shape).Idx → EReal)

/-- The activation at row `r`, column `n`. -/
def value (r : Fin 24576) (n : Fin 12416) : EReal := Gelu.reference (pre x xs w ws b r n)

/-- The magnitude of group `k` of row `r`. -/
def size (r : Fin 24576) (k : Fin 97) : EReal := top fun l => value x xs w ws b r (column k l)

/-- The group's scale, -/
def scaleAt (r : Fin 24576) (k : Fin 97) : EReal := Scales.refScale (size x xs w ws b r k)

/-- and the code at row `r`, column `n`. -/
def codeAt (r : Fin 24576) (n : Fin 12416) : EReal :=
  code (Scales.refInv (size x xs w ws b r (groupOf n))) (value x xs w ws b r n)
end

section
open Cert.KernelIdeal
variable (a0 : S4x6144x12928.Idx → EReal) (a1 : S4x6144x1.Idx → EReal) (a2 : S12928x12416.Idx → EReal) (a3 a4 : S12416.Idx → EReal)

theorem cast_x : S4x6144x12928.ShapeCasts S24576x12928 := by decide +kernel
theorem cast_xs : S4x6144x1.ShapeCasts S24576x1 := by decide +kernel
theorem cast_row : S12416.ShapeCasts S1x12416 := by decide +kernel

/-- The same of the arguments as they are given: the two batch axes as one, and the columns' vectors as rows. -/
def codes (r : Fin 24576) (n : Fin 12416) : EReal :=
  codeAt (shapeCast S24576x12928 a0 cast_x) (shapeCast S24576x1 a1 cast_xs)
    a2 (shapeCast S1x12416 a3 cast_row) (shapeCast S1x12416 a4 cast_row) r n

def scales (r : Fin 24576) (k : Fin 97) : EReal :=
  scaleAt (shapeCast S24576x12928 a0 cast_x) (shapeCast S24576x1 a1 cast_xs)
    a2 (shapeCast S1x12416 a3 cast_row) (shapeCast S1x12416 a4 cast_row) r k
end

end Cert.Quantised
-- ==== Proof.KernelIdealTile.lean ====
/-
  The entries of what one grid step computes, over the extended reals: of the tile's activation, of its codes and of the
  scales.
-/
module

public import proofs.«01_k».proof.Proof.KernelIdealValues
public import proofs.«01_k».proof.Proof.Quantised
public import Idealize.ShloMosaic.Lib.Pointwise
public import Idealize.ShloMosaic.Lib.Pipeline.Value

@[expose] public section
set_option maxRecDepth 16384
noncomputable section
namespace Cert.KernelIdeal.Step
open Idealize.ShloMosaic Idealize.SL.Sem
open Cert.KernelIdeal Cert.KernelIdeal.Gen

/-- The activation at a row and a column reads that row and that column only. -/
theorem act_apply (x : Vec Ideal S1024x12928 .fp8e4m3) (xs : Vec Ideal S1024x1 .f32) (w : Vec Ideal S12928x512 .fp8e4m3)
    (ws : Vec Ideal S1x512 .f32) (b : Vec Ideal S1x512 .bf16) (r : Fin 1024) (l : Fin 512) :
    act x xs w ws b (ix2 r l) = Gelu.kernel (Quantised.pre (M := 1024) (N := 512) x xs w ws b r l) := by
  unfold act
  pointwise [k0_pay10, k0_pay9, k0_pay8, k0_pay7, k0_pay6, k0_pay5, k0_pay4]
  rfl

theorem top_apply (g : FVec Ideal S1024x128 .f32) (r : Fin 1024) (z : Fin 1) :
    top g (ix2 r z) = Quantised.top fun l => g (ix2 r l) := by
  pointwise [top]
  rfl

theorem grow_apply (y : FVec Ideal S1024x1 .f32) (k : BitVec 32) (e : IVec S1024x1 32) (i : S1024x1.Idx) :
    grow y k e i = Scales.grow (y i) k (e i) := by
  pointwise [grow]
  unfold Scales.grow
  split <;> rfl

theorem field_apply (y : FVec Ideal S1024x1 .f32) (i : S1024x1.Idx) : field y i = Scales.field (y i) := by
  pointwise [field, grow_apply]
  rw [if_neg (fun h => h rfl)]
  rfl

theorem scale_apply (y : FVec Ideal S1024x1 .f32) (i : S1024x1.Idx) : scale y i = Scales.scale (y i) := by
  pointwise [scale, base, field_apply]
  rfl

theorem inv_apply (y : FVec Ideal S1024x1 .f32) (i : S1024x1.Idx) : inv y i = Scales.inv (y i) := by
  pointwise [inv, base, field_apply]
  rfl

theorem codes_apply (g : FVec Ideal S1024x128 .f32) (r : Fin 1024) (l : Fin 128) :
    codes g (ix2 r l) = Quantised.code (Scales.inv (Quantised.top fun l => g (ix2 r l))) (g (ix2 r l)) := by
  pointwise [codes, inv_apply, top_apply]
  rfl

theorem place_apply (n k : BitVec 32) (g s : FVec Ideal S1024x128 .f32) (r : Fin 1024) (l : Fin 128) :
    place n k g s (ix2 r l) = Scalar.select (IntOp.cmpi .eq (BitVec.ofNat 32 l.val) (Scalar.addi (Scalar.muli n 4#32) k))
      (Scales.scale (Quantised.top fun l => g (ix2 r l))) (s (ix2 r l)) := by
  pointwise [place, scale_apply, top_apply]

/-- The group of the tile that a column is in, as columns. -/
def mates (l : Fin 512) (l' : Fin 128) : Fin 512 := ⟨l.val / 128 * 128 + l'.val, by omega⟩

/-- The code at a row and a column of the tile. -/
def codeOf (a : FVec Ideal S1024x512 .f32) (r : Fin 1024) (l : Fin 512) : EReal :=
  Quantised.code (Scales.inv (Quantised.top fun l' => a (ix2 r (mates l l')))) (a (ix2 r l))

theorem group_code (a : FVec Ideal S1024x512 .f32) (g : FVec Ideal S1024x128 .f32) (k : ℕ) (hk : k < 4)
    (hg : ∀ (r : Fin 1024) (l : Fin 128), g (ix2 r l) = a (ix2 r ⟨k * 128 + l.val, by omega⟩)) (r : Fin 1024) (l : Fin 128) :
    codes g (ix2 r l) = codeOf a r ⟨k * 128 + l.val, by omega⟩ := by
  rw [codes_apply, codeOf]
  simp only [hg]
  refine congrArg (fun f => Quantised.code (Scales.inv (Quantised.top f)) _) (funext fun l' => ?_)
  refine congrArg (fun c => a (ix2 r c)) (Fin.ext ?_)
  simp only [mates]
  omega

theorem piece_code (a : FVec Ideal S1024x512 .f32) (g : FVec Ideal S1024x128 .f32) (k : ℕ) (hk : k < 4)
    (hg : ∀ (r : Fin 1024) (l : Fin 128), g (ix2 r l) = a (ix2 r ⟨k * 128 + l.val, by omega⟩)) (i : S1024x512.Idx) (x : S1024x128.Idx)
    (h0 : (i 0).val = 0 + 1 * (x 0).val) (h1 : (i 1).val = k * 128 + 1 * (x 1).val) : codes g x = codeOf a (i 0) (i 1) := by
  obtain ⟨r, l, rfl⟩ : ∃ (r : Fin 1024) (l : Fin 128), x = ix2 r l := ⟨x 0, x 1, eq_ix2 x⟩
  rw [group_code a g k hk hg]
  congr 1
  · exact Fin.ext (by rw [h0]; simp)
  · exact Fin.ext (by rw [h1]; simp)

theorem tileCodes_apply (a : FVec Ideal S1024x512 .f32) (r : Fin 1024) (l : Fin 512) :
    tileCodes a (ix2 r l) = codeOf a r l := by
  have hc := tile_covers (F := Ideal) (codes (group0 a)) (codes (group1 a)) (codes (group2 a)) (codes (group3 a)) (ix2 r l)
  refine View.canon_apply_of_pieces (S := S1024x512) (Val := Elt Ideal) (e := .fp8e4m3) (fun i => codeOf a (i 0) (i 1)) _ ?_ _ hc
  simp only [List.forall_mem_cons, List.not_mem_nil, false_implies, implies_true, and_true]
  refine ⟨fun x => ?_, fun x => ?_, fun x => ?_, fun x => ?_⟩
  · exact piece_code a (group3 a) 3 (by omega) (fun r l => by pointwise [group3]) _ x rfl rfl
  · exact piece_code a (group2 a) 2 (by omega) (fun r l => by pointwise [group2]) _ x rfl rfl
  · exact piece_code a (group1 a) 1 (by omega) (fun r l => by pointwise [group1]) _ x rfl rfl
  · exact piece_code a (group0 a) 0 (by omega) (fun r l => by pointwise [group0]) _ x rfl rfl

end Cert.KernelIdeal.Step
-- ==== Proof.KernelIdealBlocks.lean ====
/-
  The blocks that the kernel's grid points read: grid point `t` has rows `1024 (t / 25) + r` and columns `512 (t % 25) + l`
  of the arrays, the columns beyond the last one being whatever the buffer held.
-/
module

public import proofs.«01_k».proof.Proof.KernelIdealBody
public import proofs.«01_k».proof.Proof.KernelIdealTile
public import Idealize.ShloMosaic.Lib.Pipeline.ValueKit

@[expose] public section
set_option maxRecDepth 16384
noncomputable section
namespace Cert.KernelIdeal.Step
open Idealize.ShloMosaic Idealize.SL.Sem Idealize.ShloMosaic.TcCoe
open Cert.KernelIdeal Cert.KernelIdeal.Gen

variable (m : (ℓ : Loc nD τ sig) → Buf (Elt Ideal) ℓ)

/-! ## The arrays at the region's entry -/

theorem V_0 (c : Dev nD) : V m c main_v0
    = shapeCast S24576x12928 (m ((c : Thread nD τ).loc main_arg0)) shapeCasts_S4x6144x12928_S24576x12928 := by
  unfold_abbrev_sides
  after_results
  rfl

theorem V_1 (c : Dev nD) : V m c main_v1
    = shapeCast S24576x1 (m ((c : Thread nD τ).loc main_arg1)) shapeCasts_S4x6144x1_S24576x1 := by
  unfold_abbrev_sides
  after_results
  rfl

theorem V_2 (c : Dev nD) : V m c main_v2
    = shapeCast S1x12416 (m ((c : Thread nD τ).loc main_arg3)) shapeCasts_S12416_S1x12416 := by
  unfold_abbrev_sides
  after_results
  rfl

theorem V_3 (c : Dev nD) : V m c main_v3
    = shapeCast S1x12416 (m ((c : Thread nD τ).loc main_arg4)) shapeCasts_S12416_S1x12416 := by
  unfold_abbrev_sides
  after_results
  rfl

/-! ## The blocks -/

theorem index_0 : ∀ t : Fin cfg0.N, win0_0.index t = ![t.val / 25, 0] := (by decide +kernel : ∀ t : Fin grid0.N, _)
theorem index_1 : ∀ t : Fin cfg0.N, win0_1.index t = ![t.val / 25, 0] := (by decide +kernel : ∀ t : Fin grid0.N, _)
theorem index_2 : ∀ t : Fin cfg0.N, win0_2.index t = ![0, t.val % 25] := (by decide +kernel : ∀ t : Fin grid0.N, _)
theorem index_3 : ∀ t : Fin cfg0.N, win0_3.index t = ![0, t.val % 25] := (by decide +kernel : ∀ t : Fin grid0.N, _)
theorem index_4 : ∀ t : Fin cfg0.N, win0_4.index t = ![0, t.val % 25] := (by decide +kernel : ∀ t : Fin grid0.N, _)
theorem xsize_2 : ∀ t : Fin cfg0.N, win0_2.xsize (grid0.coords t) = ![12928, min 512 (12416 - 512 * (t.val % 25))] :=
  (by decide +kernel : ∀ t : Fin grid0.N, _)
theorem xsize_3 : ∀ t : Fin cfg0.N, win0_3.xsize (grid0.coords t) = ![1, min 512 (12416 - 512 * (t.val % 25))] :=
  (by decide +kernel : ∀ t : Fin grid0.N, _)
theorem xsize_4 : ∀ t : Fin cfg0.N, win0_4.xsize (grid0.coords t) = ![1, min 512 (12416 - 512 * (t.val % 25))] :=
  (by decide +kernel : ∀ t : Fin grid0.N, _)

theorem block_0 (c : Dev nD) (t : Fin cfg0.N) (r : Fin 1024) (k : Fin 12928) (R : Fin 24576) (hR : R.val = t.val / 25 * 1024 + r.val) :
    iblk m c 0 t (ix2 r k) = V m c main_v0 (ix2 R k) := by
  unfold iblk; blk_ext [index_0 t]

theorem block_1 (c : Dev nD) (t : Fin cfg0.N) (r : Fin 1024) (z : Fin 1) (R : Fin 24576) (hR : R.val = t.val / 25 * 1024 + r.val) :
    iblk m c 1 t (ix2 r z) = V m c main_v1 (ix2 R z) := by
  unfold iblk; blk_ext [index_1 t]

theorem block_2 (c : Dev nD) (t : Fin cfg0.N) (d : Vec Ideal S12928x512 .fp8e4m3) (k : Fin 12928) (l : Fin 512) (n : Fin 12416)
    (hn : n.val = t.val % 25 * 512 + l.val) :
    win0_2.fill (grid0.coords t) d (iblk m c 2 t) (ix2 k l) = V m c main_arg2 (ix2 k n) := by
  have hb : ∀ a : Fin 2, ((ix2 k l : S12928x512.Idx) a).val < win0_2.xsize (grid0.coords t) a := by
    rw [xsize_2]
    intro a; fin_cases a
    · exact k.isLt
    · show l.val < min 512 (12416 - 512 * (t.val % 25)); have := n.isLt; have := l.isLt; omega
  have e := win0_2.fill_xinj (grid0.coords t) d (iblk m c 2 t) (fun a => ⟨((ix2 k l : S12928x512.Idx) a).val, hb a⟩)
  refine Eq.trans ?_ (e.trans ?_)
  · exact congrArg (win0_2.fill (grid0.coords t) d (iblk m c 2 t)) (funext fun a => Fin.ext rfl)
  · unfold iblk
    blk_ext [index_2 t]

theorem block_3 (c : Dev nD) (t : Fin cfg0.N) (d : Vec Ideal S1x512 .f32) (z : Fin 1) (l : Fin 512) (n : Fin 12416)
    (hn : n.val = t.val % 25 * 512 + l.val) :
    win0_3.fill (grid0.coords t) d (iblk m c 3 t) (ix2 z l) = V m c main_v2 (ix2 z n) := by
  have hb : ∀ a : Fin 2, ((ix2 z l : S1x512.Idx) a).val < win0_3.xsize (grid0.coords t) a := by
    rw [xsize_3]
    intro a; fin_cases a
    · exact z.isLt
    · show l.val < min 512 (12416 - 512 * (t.val % 25)); have := n.isLt; have := l.isLt; omega
  have e := win0_3.fill_xinj (grid0.coords t) d (iblk m c 3 t) (fun a => ⟨((ix2 z l : S1x512.Idx) a).val, hb a⟩)
  refine Eq.trans ?_ (e.trans ?_)
  · exact congrArg (win0_3.fill (grid0.coords t) d (iblk m c 3 t)) (funext fun a => Fin.ext rfl)
  · unfold iblk
    blk_ext [index_3 t]

theorem block_4 (c : Dev nD) (t : Fin cfg0.N) (d : Vec Ideal S1x512 .bf16) (z : Fin 1) (l : Fin 512) (n : Fin 12416)
    (hn : n.val = t.val % 25 * 512 + l.val) :
    win0_4.fill (grid0.coords t) d (iblk m c 4 t) (ix2 z l) = V m c main_v3 (ix2 z n) := by
  have hb : ∀ a : Fin 2, ((ix2 z l : S1x512.Idx) a).val < win0_4.xsize (grid0.coords t) a := by
    rw [xsize_4]
    intro a; fin_cases a
    · exact z.isLt
    · show l.val < min 512 (12416 - 512 * (t.val % 25)); have := n.isLt; have := l.isLt; omega
  have e := win0_4.fill_xinj (grid0.coords t) d (iblk m c 4 t) (fun a => ⟨((ix2 z l : S1x512.Idx) a).val, hb a⟩)
  refine Eq.trans ?_ (e.trans ?_)
  · exact congrArg (win0_4.fill (grid0.coords t) d (iblk m c 4 t)) (funext fun a => Fin.ext rfl)
  · unfold iblk
    blk_ext [index_4 t]

/-- The activation of a tile, at a row and a column that the arrays have: the whole arrays' value there. -/
theorem actAt_apply (c : Dev nD) (t : Fin cfg0.N) (d2 : Vec Ideal S12928x512 .fp8e4m3) (d3 : Vec Ideal S1x512 .f32) (d4 : Vec Ideal S1x512 .bf16)
    (r : Fin 1024) (l : Fin 512) (R : Fin 24576) (n : Fin 12416) (hR : R.val = t.val / 25 * 1024 + r.val)
    (hn : n.val = t.val % 25 * 512 + l.val) :
    actAt m c t d2 d3 d4 (ix2 r l)
      = Quantised.value (V m c main_v0) (V m c main_v1) (V m c main_arg2) (V m c main_v2) (V m c main_v3) R n := by
  unfold actAt Quantised.value
  rw [act_apply, Gelu.agree]
  refine congrArg Gelu.reference ?_
  unfold Quantised.pre
  rw [block_1 m c t r 0 R hR, block_3 m c t d3 0 l n hn, block_4 m c t d4 0 l n hn]
  refine congrArg (fun s : EReal => s * _ * _ + _) (Finset.sum_congr rfl fun k _ => ?_)
  rw [block_0 m c t r k R hR, block_2 m c t d2 k l n hn]

end Cert.KernelIdeal.Step
-- ==== Proof.KernelIdealLanes.lean ====
/-
  One column step's scales, lane by lane: step `j` puts the scales of the tile's four groups at the lanes `4j` to `4j + 3`
  and leaves the others.
-/
module

public import proofs.«01_k».proof.Proof.KernelIdealTile

@[expose] public section
set_option maxRecDepth 16384
noncomputable section
namespace Cert.KernelIdeal.Step
open Idealize.ShloMosaic
open Cert.KernelIdeal Cert.KernelIdeal.Gen

/-- The words compared are equal exactly when the numbers are. -/
theorem lane_word (l j k : ℕ) (hl : l < 128) (hj : j < 25) (hk : k < 4) :
    IntOp.cmpi .eq (BitVec.ofNat 32 l) (Scalar.addi (Scalar.muli (BitVec.ofNat 32 j) 4#32) (BitVec.ofNat 32 k)) = 1#1 ↔ l = 4 * j + k := by
  have e : Scalar.addi (Scalar.muli (BitVec.ofNat 32 j) 4#32) (BitVec.ofNat 32 k) = BitVec.ofNat 32 (4 * j + k) := by
    apply BitVec.eq_of_toNat_eq
    show (BitVec.ofNat 32 j * 4#32 + BitVec.ofNat 32 k).toNat = _
    simp only [BitVec.toNat_add, BitVec.toNat_mul, BitVec.toNat_ofNat]
    omega
  rw [e]
  have h : BitVec.ofNat 32 l = BitVec.ofNat 32 (4 * j + k) ↔ l = 4 * j + k := by
    rw [← BitVec.toNat_inj]
    simp only [BitVec.toNat_ofNat]
    omega
  rw [← h]
  show BitVec.ofBool (BitVec.ofNat 32 l == BitVec.ofNat 32 (4 * j + k)) = 1#1 ↔ _
  by_cases hb : BitVec.ofNat 32 l = BitVec.ofNat 32 (4 * j + k)
  · simp [hb]
  · have : (BitVec.ofNat 32 l == BitVec.ofNat 32 (4 * j + k)) = false := by simpa using hb
    rw [this]
    simp [hb]

/-- One group's lane. -/
theorem place_lane (j k : ℕ) (hj : j < 25) (hk : k < 4) (g s : FVec Ideal S1024x128 .f32) (r : Fin 1024) (l : Fin 128) :
    place (BitVec.ofNat 32 j) (BitVec.ofNat 32 k) g s (ix2 r l)
      = if l.val = 4 * j + k then Scales.scale (Quantised.top fun l => g (ix2 r l)) else s (ix2 r l) := by
  rw [place_apply]
  unfold Scalar.select
  exact if_congr (lane_word l.val j k l.isLt hj hk) rfl rfl

/-- The columns of group `k` of a tile. -/
def tileColumn (k : Fin 4) (l : Fin 128) : Fin 512 := ⟨k.val * 128 + l.val, by omega⟩

/-- A lane of this step. -/
theorem tileScales_own (j : ℕ) (hj : j < 25) (a : FVec Ideal S1024x512 .f32) (s : FVec Ideal S1024x128 .f32) (r : Fin 1024) (l : Fin 128)
    (k : Fin 4) (hl : l.val = 4 * j + k.val) :
    tileScales (BitVec.ofNat 32 j) a s (ix2 r l) = Scales.scale (Quantised.top fun l => a (ix2 r (tileColumn k l))) := by
  have h0 : ∀ l : Fin 128, group0 a (ix2 r l) = a (ix2 r (tileColumn 0 l)) := fun l => by pointwise [group0, tileColumn]
  have h1 : ∀ l : Fin 128, group1 a (ix2 r l) = a (ix2 r (tileColumn 1 l)) := fun l => by pointwise [group1, tileColumn]
  have h2 : ∀ l : Fin 128, group2 a (ix2 r l) = a (ix2 r (tileColumn 2 l)) := fun l => by pointwise [group2, tileColumn]
  have h3 : ∀ l : Fin 128, group3 a (ix2 r l) = a (ix2 r (tileColumn 3 l)) := fun l => by pointwise [group3, tileColumn]
  unfold tileScales
  rw [place_lane j 3 hj (by omega), place_lane j 2 hj (by omega), place_lane j 1 hj (by omega), place_lane j 0 hj (by omega)]
  simp only [h0, h1, h2, h3, hl]
  fin_cases k <;> simp

/-- Another lane. -/
theorem tileScales_other (j : ℕ) (hj : j < 25) (a : FVec Ideal S1024x512 .f32) (s : FVec Ideal S1024x128 .f32) (r : Fin 1024) (l : Fin 128)
    (hl : l.val < 4 * j) : tileScales (BitVec.ofNat 32 j) a s (ix2 r l) = s (ix2 r l) := by
  unfold tileScales
  rw [place_lane j 3 hj (by omega), place_lane j 2 hj (by omega), place_lane j 1 hj (by omega), place_lane j 0 hj (by omega),
    if_neg (by omega), if_neg (by omega), if_neg (by omega), if_neg (by omega)]
  exact congrFun (shapeCast_self s _) _

end Cert.KernelIdeal.Step
-- ==== Proof.KernelIdealArrays.lean ====
/-
  The arrays that the kernel returns. Grid point `t` leaves its tile's codes at rows `1024 (t / 25) + r` and columns
  `512 (t % 25) + l`, and in the scales' buffer the first `4 (t % 25 + 1)` lanes that have a group; every code is written
  back by its own point, and the scales of 1024 rows by the last column step.
-/
module

public import proofs.«01_k».proof.Proof.KernelIdealBlocks
public import proofs.«01_k».proof.Proof.KernelIdealLanes
public import Idealize.ShloMosaic.Lib.Pipeline.ArrRel

@[expose] public section
set_option maxRecDepth 16384
noncomputable section
namespace Cert.KernelIdeal.Step
open Idealize.ShloMosaic Idealize.SL.Sem Idealize.ShloMosaic.TcCoe
open Idealize.ShloMosaic.Rounds
open Idealize.ShloMosaic.Pipeline (Dat RDat)
open Cert.KernelIdeal Cert.KernelIdeal.Gen

variable (m : (ℓ : Loc nD τ sig) → Buf (Elt Ideal) ℓ) (ρ : Dev nD → PrngReg)

/-- The codes that core `c`'s arguments give. -/
abbrev codesOf (c : Dev nD) : Fin 24576 → Fin 12416 → EReal :=
  Quantised.codes (m ((c : Thread nD τ).loc main_arg0)) (m ((c : Thread nD τ).loc main_arg1)) (m ((c : Thread nD τ).loc main_arg2))
    (m ((c : Thread nD τ).loc main_arg3)) (m ((c : Thread nD τ).loc main_arg4))

/-- The scales. -/
abbrev scalesOf (c : Dev nD) : Fin 24576 → Fin 97 → EReal :=
  Quantised.scales (m ((c : Thread nD τ).loc main_arg0)) (m ((c : Thread nD τ).loc main_arg1)) (m ((c : Thread nD τ).loc main_arg2))
    (m ((c : Thread nD τ).loc main_arg3)) (m ((c : Thread nD τ).loc main_arg4))

theorem codesOf_eq (c : Dev nD) (R : Fin 24576) (n : Fin 12416) : codesOf m c R n
    = Quantised.codeAt (V m c main_v0) (V m c main_v1) (V m c main_arg2) (V m c main_v2) (V m c main_v3) R n := by
  rw [V_0, V_1, V_2, V_3, V_main_arg2]; rfl

theorem scalesOf_eq (c : Dev nD) (R : Fin 24576) (k : Fin 97) : scalesOf m c R k
    = Quantised.scaleAt (V m c main_v0) (V m c main_v1) (V m c main_arg2) (V m c main_v2) (V m c main_v3) R k := by
  rw [V_0, V_1, V_2, V_3, V_main_arg2]; rfl

/-- What is said of the codes' buffer after point `t`. -/
def Codes (t : Fin cfg0.N) (X : Vec Ideal S1024x512 .fp8e4m3) : Prop :=
  ∀ (c : Dev nD) (r : Fin 1024) (l : Fin 512) (R : Fin 24576) (n : Fin 12416), R.val = t.val / 25 * 1024 + r.val →
    n.val = t.val % 25 * 512 + l.val → X (ix2 r l) = codesOf m c R n

/-- What is said of the scales' buffer. -/
def ScalesTo (t : Fin cfg0.N) (X : Vec Ideal S1024x128 .f32) : Prop :=
  ∀ (c : Dev nD) (r : Fin 1024) (l : Fin 128) (R : Fin 24576) (k : Fin 97), R.val = t.val / 25 * 1024 + r.val →
    k.val = l.val → l.val < 4 * (t.val % 25 + 1) → X (ix2 r l) = scalesOf m c R k

/-- A point's codes. -/
theorem codes_said (c : Dev nD) (t : Fin cfg0.N) (d2 : Vec Ideal S12928x512 .fp8e4m3) (d3 : Vec Ideal S1x512 .f32) (d4 : Vec Ideal S1x512 .bf16) :
    Codes m t (tileCodes (actAt m c t d2 d3 d4)) := by
  intro c' r l R n hR hn
  obtain rfl : c = c' := Subsingleton.elim _ _
  rw [tileCodes_apply, codeOf, codesOf_eq, Quantised.codeAt, (Scales.agree _).2, actAt_apply m c t d2 d3 d4 r l R n hR hn]
  refine congrArg (fun f => Quantised.code (Scales.refInv (Quantised.top f)) _) (funext fun l' => ?_)
  refine actAt_apply m c t d2 d3 d4 r (mates l l') R (Quantised.column (Quantised.groupOf n) l') hR ?_
  show n.val / 128 * 128 + l'.val = t.val % 25 * 512 + (l.val / 128 * 128 + l'.val)
  omega

theorem coords_1 : ∀ t : Fin cfg0.N, (grid0.coords t 1).val = t.val % 25 := (by decide +kernel : ∀ t : Fin grid0.N, _)

/-- A point's scales, over those of the step before. -/
theorem scales_said (c : Dev nD) (t : Fin cfg0.N) (d2 : Vec Ideal S12928x512 .fp8e4m3) (d3 : Vec Ideal S1x512 .f32) (d4 : Vec Ideal S1x512 .bf16)
    (Y : Vec Ideal S1024x128 .f32)
    (hY : t.val % 25 ≠ 0 → ScalesTo m ⟨t.val - 1, Nat.lt_of_le_of_lt (Nat.sub_le _ _) t.isLt⟩ Y) :
    ScalesTo m t (tileScales (BitVec.ofNat 32 (grid0.coords t 1).val) (actAt m c t d2 d3 d4) Y) := by
  intro c' r l R k hR hk hl
  obtain rfl : c = c' := Subsingleton.elim _ _
  have hj : t.val % 25 < 25 := Nat.mod_lt _ (by norm_num)
  rw [coords_1]
  by_cases h : l.val < 4 * (t.val % 25)
  · rw [tileScales_other _ hj _ _ _ _ h]
    have hR' : R.val = (t.val - 1) / 25 * 1024 + r.val := by omega
    have hl' : l.val < 4 * ((t.val - 1) % 25 + 1) := by omega
    exact hY (by omega) c r l R k hR' hk hl'
  · have hg : l.val = 4 * (t.val % 25) + (⟨l.val - 4 * (t.val % 25), by omega⟩ : Fin 4).val := by
      show l.val = 4 * (t.val % 25) + (l.val - 4 * (t.val % 25)); omega
    rw [tileScales_own _ hj _ _ _ _ _ hg, scalesOf_eq, Quantised.scaleAt, (Scales.agree _).1]
    refine congrArg (fun f => Scales.refScale (Quantised.top f)) (funext fun l' => ?_)
    refine actAt_apply m c t d2 d3 d4 r _ R (Quantised.column k l') hR ?_
    show k.val * 128 + l'.val = t.val % 25 * 512 + ((l.val - 4 * (t.val % 25)) * 128 + l'.val)
    omega

theorem index_5 : ∀ t : Fin cfg0.N, win0_5.index t = ![t.val / 25, t.val % 25] := (by decide +kernel : ∀ t : Fin grid0.N, _)
theorem index_6 : ∀ t : Fin cfg0.N, win0_6.index t = ![t.val / 25, 0] := (by decide +kernel : ∀ t : Fin grid0.N, _)

/-- The codes' array, from buffers of which that is known. -/
theorem array_codes (c : Dev nD) (dat : Dat τ (Elt Ideal) Unit ℕ (UR sig nD τ) ℕ cfg0 c)
    (h : ∀ t : Fin cfg0.N, Codes m t (dat.after 5 t)) (i : S24576x12416.Idx) : dat.arrAt 5 cfg0.N i = codesOf m c (i 0) (i 1) := by
  refine dat.arrAt_forall_of_covers 5 (fun i v => v = codesOf m c (i 0) (i 1)) (by decide +kernel) (fun t hf y => ?_) i
  have e0 : ((((cfg0.win 5).blk t).view.emb y) 0).val = t.val / 25 * 1024 + (y 0).val := by blk_simp [index_5 t]
  have e1 : ((((cfg0.win 5).blk t).view.emb y) 1).val = t.val % 25 * 512 + (y 1).val := by blk_simp [index_5 t]
  have hx := h t c (win0_5.xinj (grid0.coords t) y 0) (win0_5.xinj (grid0.coords t) y 1) _ _ e0 e1
  exact (congrArg (dat.after 5 t) (eq_ix2 (win0_5.xinj (grid0.coords t) y))).trans hx

/-- The scales' array. -/
theorem array_scales (c : Dev nD) (dat : Dat τ (Elt Ideal) Unit ℕ (UR sig nD τ) ℕ cfg0 c)
    (h : ∀ t : Fin cfg0.N, t.val % 25 = 24 → ScalesTo m t (dat.after 6 t)) (i : S24576x128.Idx) (hi : (i 1).val < 97) :
    dat.arrAt 6 cfg0.N i = scalesOf m c (i 0) ⟨(i 1).val, hi⟩ := by
  refine (dat.arrAt_forall_of_covers 6 (fun i v => ∀ hi : (i 1).val < 97, v = scalesOf m c (i 0) ⟨(i 1).val, hi⟩) (by decide +kernel)
    (fun t hf y hi => ?_) i) hi
  have e0 : ((((cfg0.win 6).blk t).view.emb y) 0).val = t.val / 25 * 1024 + (y 0).val := by blk_simp [index_6 t]
  have e1 : ((((cfg0.win 6).blk t).view.emb y) 1).val = (y 1).val := by blk_simp [index_6 t]
  have h24 : t.val % 25 = 24 := (flush0_6 t).mp hf
  have hx := h t h24 c (win0_6.xinj (grid0.coords t) y 0) (win0_6.xinj (grid0.coords t) y 1) _ ⟨_, hi⟩ e0 e1 (by
    show (y 1).val < _; omega)
  exact (congrArg (dat.after 6 t) (eq_ix2 (win0_6.xinj (grid0.coords t) y))).trans hx

/-- The kernel's run: the codes, the scales in the lanes that have a group, and the arguments as they were. -/
theorem run_values : θ_run defs (onTc (τ := τ) (main (F := Ideal))) ⟨m, fun _ => 0, ρ⟩ fun r => ∀ c : Dev nD,
      (∀ i : S24576x12416.Idx, r.2.mem ((c : Thread nD τ).loc main_v4_0) i = codesOf m c (i 0) (i 1))
      ∧ (∀ (i : S24576x128.Idx) (hi : (i 1).val < 97), r.2.mem ((c : Thread nD τ).loc main_v4_1) i = scalesOf m c (i 0) ⟨(i 1).val, hi⟩)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run m ρ (Codes m) (ScalesTo m) (codes_said m) (scales_said m))
  obtain ⟨after, hL, hA⟩ := h.1.exists_exact c
  refine ⟨fun i => ?_, fun i hi => ?_, args_of_post m _ _ h.1 c⟩
  · refine (congrFun (hA 5) i).trans (array_codes m c _ (fun t => ?_) i)
    exact (dat m c).toRRel_leaves (fgt := marked) (Rl := said (Codes m) (ScalesTo m)) (w := 5) rfl (hL 5 t (flush0_5 t))
  · refine (congrFun (hA 6) i).trans (array_scales m c _ (fun t ht => ?_) i hi)
    exact (dat m c).toRRel_leaves (fgt := marked) (Rl := said (Codes m) (ScalesTo m)) (w := 6) rfl (hL 6 t ((flush0_6 t).mpr ht))

end Cert.KernelIdeal.Step
-- ==== Proof.ReferenceWhole.lean ====
/-
  The entries of what the reference's body computes from the whole arrays: the activation by groups, the size of a group,
  the codes and the scales.
-/
module

public import proofs.«01_k».proof.Proof.Gen.ReferenceIdeal.Value
public import proofs.«01_k».proof.Proof.Quantised
public import Idealize.ShloMosaic.Lib.Pointwise

@[expose] public section
set_option maxRecDepth 16384
noncomputable section
namespace Cert.ReferenceIdeal.Whole
open Idealize.ShloMosaic Idealize.SL.Sem
open Cert.ReferenceIdeal Cert.ReferenceIdeal.Gen

/-- The largest magnitude along the last of three axes, with the axis kept at extent one, times a constant: at an index. -/
theorem largest_apply {A B C : ℕ} (g : FVec Ideal ⟨3, ![A, B, C]⟩ .f32) (acc c : BitVec 32)
    (h : (⟨3, ![A, B, C]⟩ : Shape).Reduces [2] ⟨2, ![A, B]⟩) (hφ : FKind.Formats .f32) (hacc : acc = FKind.maximumf.neutral .f32 hφ)
    (hs : (⟨2, ![A, B]⟩ : Shape).ShapeCasts ⟨3, ![A, B, 1]⟩) (r : Fin A) (k : Fin B) (z : Fin 1) :
    mulf (shapeCast ⟨3, ![A, B, 1]⟩ (multiReduction .maximumf [2] ⟨2, ![A, B]⟩ (absf g) acc h hφ hacc) hs)
        (broadcast ⟨3, ![A, B, 1]⟩ (Scalar.ofBits .f32 c)) (ix3 r k z)
      = (Finset.univ.fold max (Ideal.ofBits .f32 acc) (fun l : Fin C => FloatOps.absf (F := Ideal) (φ := .f32) (g (ix3 r k l)))
          * Ideal.ofBits .f32 c : EReal) := by
  have h1 := shapeCast_apply (multiReduction .maximumf [2] ⟨2, ![A, B]⟩ (absf g) acc h hφ hacc) hs (ix3 r k z) (ix2 r k) (by
      rw [Shape.rowMajor_val_two, Shape.rowMajor_val_three]
      show r.val * B + k.val = (r.val * B + k.val) * 1 + z.val
      omega)
  have h2 := Ideal.multiReduction_maximumf_single (absf g) acc h hφ hacc (ix2 r k)
  have h3 : (absf g : FVec Ideal ⟨3, ![A, B, C]⟩ .f32) ∘ h.lift (ix2 r k)
      = fun l : Fin C => FloatOps.absf (F := Ideal) (φ := .f32) (g (ix3 r k l)) := by
    funext l
    refine congrArg (fun i => FloatOps.absf (F := Ideal) (φ := .f32) (g i)) (funext fun a => Fin.ext ?_)
    fin_cases a <;> rfl
  have h4 := h1.trans (h2.trans (congrArg (fun f : Fin C → EReal => Finset.univ.fold max (Ideal.ofBits .f32 acc) f) h3))
  exact congrArg (fun v : EReal => v * Ideal.ofBits .f32 c) h4

/-- The largest magnitude of each group, times the f32 nearest 1/448, as the body has it, -/
def tops (g : FVec Ideal S24576x97x128 .f32) : FVec Ideal S24576x97x1 .f32 :=
  mulf (shapeCast S24576x97x1 (multiReduction .maximumf [2] S24576x97 (absf g) 0xFF800000#32 reduces_S24576x97x128_S24576x97 (.inl rfl) rfl)
    shapeCasts_S24576x97_S24576x97x1) (broadcast S24576x97x1 (Scalar.ofBits .f32 0x3B124925#32))

/-- at a row and a group. -/
theorem tops_apply (g : FVec Ideal S24576x97x128 .f32) (r : Fin 24576) (k : Fin 97) (z : Fin 1) :
    tops g (ix3 r k z) = Quantised.top fun l => g (ix3 r k l) := by
  unfold tops Quantised.top
  exact largest_apply g _ _ _ _ _ _ r k z

/-- The exponents before the rule for the smallest sizes, as the body has them. -/
theorem logs_apply (v16 v20 v26 v38 v39 : FVec Ideal S24576x12416 .f32) (c : Ideal .f32) (i : S24576x97x1.Idx) :
    k0_pay13 v16 v20 v26 v38 v39 c i
      = Ideal.liftRound Int.floor (Ideal.div (Ideal.log (k0_pay12 v16 v20 v26 v38 v39 c i)) (Ideal.log (Ideal.ofBits .f32 0x40000000#32))) + 1 := by
  have h : ∀ y : FVec Ideal S24576x97x1 .f32, addf (floor (divf (log y) (broadcast S24576x97x1 (Scalar.log (Scalar.ofBits .f32 0x40000000#32)))))
      (broadcast S24576x97x1 (Scalar.ofBits .f32 0x3F800000#32)) i
      = Ideal.liftRound Int.floor (Ideal.div (Ideal.log (y i)) (Ideal.log (Ideal.ofBits .f32 0x40000000#32))) + 1 := fun y => by
    pointwise []; rfl
  have e : k0_pay13 v16 v20 v26 v38 v39 c = addf (floor (divf (log (k0_pay12 v16 v20 v26 v38 v39 c))
      (broadcast S24576x97x1 (Scalar.log (Scalar.ofBits .f32 0x40000000#32))))) (broadcast S24576x97x1 (Scalar.ofBits .f32 0x3F800000#32)) := by
    unfold k0_pay13; rfl
  rw [e, h]

section
variable (x : Vec Ideal S24576x12928 .fp8e4m3) (xs : Vec Ideal S24576x1 .f32) (w : Vec Ideal S12928x12416 .fp8e4m3)
  (ws : Vec Ideal S1x12416 .f32) (b : Vec Ideal S1x12416 .bf16)

/-- The activation, by groups of 128 columns. -/
abbrev grouped : FVec Ideal S24576x97x128 .f32 :=
  k0_pay11 (k0_pay15 x xs w ws b) (k0_pay16 x xs w ws b) (k0_pay17 x xs w ws b) (k0_pay18 x xs w ws b) (k0_pay19 x xs w ws b)
    (Scalar.ofBits (F := Ideal) .f32 0x3D77E302#32)

theorem grouped_apply (r : Fin 24576) (n : Fin 97) (l : Fin 128) :
    grouped x xs w ws b (ix3 r n l) = Quantised.value x xs w ws b r (Quantised.column n l) := by
  unfold grouped k0_pay15 k0_pay16 k0_pay17 k0_pay18 k0_pay19
  pointwise [k0_pay11, k0_pay10, k0_pay9, k0_pay8, k0_pay7, k0_pay6, k0_pay5, k0_pay4]
  unfold Quantised.value Quantised.pre Quantised.column
  generalize (∑ k : Fin 12928, x (ix2 r k) * w (ix2 k ⟨n.val * 128 + l.val, _⟩)) * xs (ix2 r 0) * ws (ix2 0 ⟨n.val * 128 + l.val, _⟩)
    + b (ix2 0 ⟨n.val * 128 + l.val, _⟩) = h
  unfold Gelu.reference
  dsimp only
  simp only [zero_add]

theorem size_apply (r : Fin 24576) (k : Fin 97) (z : Fin 1) :
    k0_pay20 x xs w ws b (ix3 r k z) = Quantised.size x xs w ws b r k := by
  have h : k0_pay20 x xs w ws b = tops (grouped x xs w ws b) := by
    unfold k0_pay20 k0_pay12 tops grouped; rfl
  rw [h, tops_apply]
  exact congrArg Quantised.top (funext fun l => grouped_apply x xs w ws b r k l)
/-- The exponents, at a row and a group. -/
theorem pay1_apply (v v' v'' : FVec Ideal S24576x97x1 .f32) (r : Fin 24576) (k : Fin 97) :
    k0_pay1 v v' v'' (ix3 r k 0) = if v (ix3 r k 0) < v'' (ix3 r k 0) then 0 else v' (ix3 r k 0) := by
  pointwise [k0_pay1]

/-- The exponents before that rule, at a row and a group. -/
theorem pay21_apply (r : Fin 24576) (k : Fin 97) (z : Fin 1) : k0_pay21 x xs w ws b (ix3 r k z) = Ideal.liftRound Int.floor
      (Ideal.div (Ideal.log (k0_pay20 x xs w ws b (ix3 r k z))) (Ideal.log (Ideal.ofBits .f32 0x40000000#32))) + 1 := by
  unfold k0_pay21 k0_pay20
  exact logs_apply _ _ _ _ _ _ _

/-- The smallest size with an exponent. -/
theorem pay22_apply (r : Fin 24576) (k : Fin 97) (z : Fin 1) :  k0_pay22 x xs w ws b (ix3 r k z) = Ideal.ofBits .f32 0x00800000#32 := by
  unfold k0_pay22 k0_pay14
  pointwise []

/-- The codes' array, at a row and a column. -/
theorem pay2_apply (g : FVec Ideal S24576x97x128 .f32) (v v' v'' : FVec Ideal S24576x97x1 .f32) (r : Fin 24576) (n : Fin 12416) :
    k0_pay2 g v v' v'' (ix2 r n) = Quantised.code (if k0_pay1 v v' v'' (ix3 r (Quantised.groupOf n) 0) ≤ Ideal.ofBits .f32 0x42FC0000#32
      then Ideal.exp2 (0 - k0_pay1 v v' v'' (ix3 r (Quantised.groupOf n) 0)) else 0)
      (g (ix3 r (Quantised.groupOf n) ⟨n.val % 128, Nat.mod_lt _ (by norm_num)⟩)) := by
  unfold k0_pay2
  generalize k0_pay1 v v' v'' = e
  pointwise []
  unfold Quantised.code
  rfl

/-- The scales' array, at a row and the lane of a group. -/
theorem pay3_apply (v v' v'' : FVec Ideal S24576x97x1 .f32) (r : Fin 24576) (n : Fin 128) (hn : n.val < 97) :
    k0_pay3 v v' v'' (ix2 r n) = if k0_pay1 v v' v'' (ix3 r ⟨n.val, hn⟩ 0) ≤ Ideal.ofBits .f32 0x42FE0000#32
      then Ideal.exp2 (k0_pay1 v v' v'' (ix3 r ⟨n.val, hn⟩ 0))
      else if v (ix3 r ⟨n.val, hn⟩ 0) < Ideal.ofBits .f32 0x7F800000#32 then Ideal.ofBits .f32 0x7F800000#32 else 0 := by
  unfold k0_pay3
  generalize k0_pay1 v v' v'' = e
  pointwise []
  rw [dif_pos hn]
  rfl

/-- The power of two of a group. -/
theorem power_apply (r : Fin 24576) (k : Fin 97) :
    k0_pay1 (k0_pay20 x xs w ws b) (k0_pay21 x xs w ws b) (k0_pay22 x xs w ws b) (ix3 r k 0)
      = Scales.expo (Quantised.size x xs w ws b r k) := by
  rw [pay1_apply, pay21_apply, pay22_apply, size_apply]
  generalize Quantised.size x xs w ws b r k = y
  unfold Scales.expo
  split <;> rfl

/-- The codes. -/
theorem codes_apply (r : Fin 24576) (n : Fin 12416) :
    out0_5 x xs w ws b (ix2 r n) = Quantised.codeAt x xs w ws b r n := by
  have hn : Quantised.column (Quantised.groupOf n) ⟨n.val % 128, Nat.mod_lt _ (by norm_num)⟩ = n := by
    apply Fin.ext; show n.val / 128 * 128 + n.val % 128 = n.val; omega
  have e : out0_5 x xs w ws b = k0_pay2 (grouped x xs w ws b) (k0_pay20 x xs w ws b) (k0_pay21 x xs w ws b) (k0_pay22 x xs w ws b) := by
    unfold out0_5
    rw [View.canon_unit_zero (h := by funext a; fin_cases a <;> rfl)]
  rw [e, pay2_apply, power_apply, grouped_apply, hn]
  unfold Quantised.codeAt Scales.refInv
  rfl

/-- The scales. -/
theorem scales_apply (r : Fin 24576) (n : Fin 128) (hn : n.val < 97) :
    out0_6 x xs w ws b (ix2 r n) = Quantised.scaleAt x xs w ws b r ⟨n.val, hn⟩ := by
  have e : out0_6 x xs w ws b = k0_pay3 (k0_pay20 x xs w ws b) (k0_pay21 x xs w ws b) (k0_pay22 x xs w ws b) := by
    unfold out0_6
    rw [View.canon_unit_zero (h := by funext a; fin_cases a <;> rfl)]
  rw [e, pay3_apply _ _ _ r n hn, power_apply, size_apply]
  unfold Quantised.scaleAt Scales.refScale
  rfl
end

end Cert.ReferenceIdeal.Whole
-- ==== Proof.ReferenceArrays.lean ====
/-
  The arrays that the reference returns: its one grid point's blocks are the arrays, which the host lines before it fill
  with the arguments' reshapes, so they hold the codes and the scales as `Quantised.lean` states them of the arguments.
-/
module

public import proofs.«01_k».proof.Proof.ReferenceWhole
public import Idealize.ShloMosaic.Lib.Pipeline.ValueKit

@[expose] public section
set_option maxRecDepth 16384
noncomputable section
namespace Cert.ReferenceIdeal.Whole
open Idealize.ShloMosaic Idealize.SL.Sem Idealize.ShloMosaic.TcCoe
open Cert.ReferenceIdeal Cert.ReferenceIdeal.Gen

variable (m : (ℓ : Loc nD τ sig) → Buf (Elt Ideal) ℓ) (ρ : Dev nD → PrngReg)

/-! ## The arrays at the region's entry -/

theorem V_0 (c : Dev nD) : V m c main_v0
    = shapeCast S24576x12928 (m ((c : Thread nD τ).loc main_arg0)) shapeCasts_S4x6144x12928_S24576x12928 := by
  unfold_abbrev_sides
  after_results
  rfl

theorem V_1 (c : Dev nD) : V m c main_v1
    = shapeCast S24576x1 (m ((c : Thread nD τ).loc main_arg1)) shapeCasts_S4x6144x1_S24576x1 := by
  unfold_abbrev_sides
  after_results
  rfl

theorem V_2 (c : Dev nD) : V m c main_v2
    = shapeCast S1x12416 (m ((c : Thread nD τ).loc main_arg3)) shapeCasts_S12416_S1x12416 := by
  unfold_abbrev_sides
  after_results
  rfl

theorem V_3 (c : Dev nD) : V m c main_v3
    = shapeCast S1x12416 (m ((c : Thread nD τ).loc main_arg4)) shapeCasts_S12416_S1x12416 := by
  unfold_abbrev_sides
  after_results
  rfl

/-! ## The blocks -/

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)

theorem block_0 (c : Dev nD) (t : Fin cfg0.N) : iblk m c 0 t = V m c main_v0 := by
  funext y; unfold iblk; blk_ext [index_0 t]
theorem block_1 (c : Dev nD) (t : Fin cfg0.N) : iblk m c 1 t = V m c main_v1 := by
  funext y; unfold iblk; blk_ext [index_1 t]
theorem block_2 (c : Dev nD) (t : Fin cfg0.N) : iblk m c 2 t = V m c main_arg2 := by
  funext y; unfold iblk; blk_ext [index_2 t]
theorem block_3 (c : Dev nD) (t : Fin cfg0.N) : iblk m c 3 t = V m c main_v2 := by
  funext y; unfold iblk; blk_ext [index_3 t]
theorem block_4 (c : Dev nD) (t : Fin cfg0.N) : iblk m c 4 t = V m c main_v3 := by
  funext y; unfold iblk; blk_ext [index_4 t]

/-! ## The results -/

/-- The codes that core `c`'s arguments give. -/
abbrev codes (c : Dev nD) : Fin 24576 → Fin 12416 → EReal :=
  Quantised.codes (m ((c : Thread nD τ).loc main_arg0)) (m ((c : Thread nD τ).loc main_arg1)) (m ((c : Thread nD τ).loc main_arg2))
    (m ((c : Thread nD τ).loc main_arg3)) (m ((c : Thread nD τ).loc main_arg4))

/-- The scales. -/
abbrev scales (c : Dev nD) : Fin 24576 → Fin 97 → EReal :=
  Quantised.scales (m ((c : Thread nD τ).loc main_arg0)) (m ((c : Thread nD τ).loc main_arg1)) (m ((c : Thread nD τ).loc main_arg2))
    (m ((c : Thread nD τ).loc main_arg3)) (m ((c : Thread nD τ).loc main_arg4))

/-- The one grid point. -/
def point : Fin cfg0.N := ⟨0, by decide⟩

theorem array_codes (c : Dev nD) (r : Fin 24576) (n : Fin 12416) : (dats m 0 c).arrAt 5 cfg0.N (ix2 r n) = codes m c r n := by
  refine ((dats m 0 c).arrAt_emb_eq_after_last 5 point (by decide +kernel) (ix2 r n)).trans ?_
  have h := codes_apply (iblk m c 0 point) (iblk m c 1 point) (iblk m c 2 point) (iblk m c 3 point) (iblk m c 4 point) r n
  rw [← after0_5] at h
  generalize (dats m 0 c).after 5 point = X at h ⊢
  refine Eq.trans ?_ (h.trans ?_)
  · exact congrArg X (funext fun a => Fin.ext rfl)
  rw [block_0, block_1, block_2, block_3, block_4, V_0, V_1, V_2, V_3, V_main_arg2]
  rfl

theorem array_scales (c : Dev nD) (r : Fin 24576) (n : Fin 128) (hn : n.val < 97) :
    (dats m 0 c).arrAt 6 cfg0.N (ix2 r n) = scales m c r ⟨n.val, hn⟩ := by
  refine ((dats m 0 c).arrAt_emb_eq_after_last 6 point (by decide +kernel) (ix2 r n)).trans ?_
  have h := scales_apply (iblk m c 0 point) (iblk m c 1 point) (iblk m c 2 point) (iblk m c 3 point) (iblk m c 4 point) r n hn
  rw [← after0_6] at h
  generalize (dats m 0 c).after 6 point = X at h ⊢
  refine Eq.trans ?_ (h.trans ?_)
  · exact congrArg X (funext fun a => Fin.ext rfl)
  rw [block_0, block_1, block_2, block_3, block_4, V_0, V_1, V_2, V_3, V_main_arg2]
  rfl

/-- The reference's run: the codes, the scales in the lanes that have a group, and the arguments as they were. -/
theorem run : θ_run defs (onTc (τ := τ) (main (F := Ideal))) ⟨m, fun _ => 0, ρ⟩ fun r => ∀ c : Dev nD,
      (∀ i : S24576x12416.Idx, r.2.mem ((c : Thread nD τ).loc main_v4_0) i = codes m c (i 0) (i 1))
      ∧ (∀ (i : S24576x128.Idx) (hi : (i 1).val < 97), r.2.mem ((c : Thread nD τ).loc main_v4_1) i = scales m c (i 0) ⟨(i 1).val, hi⟩)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
      obtain ⟨h5, h6, hargs⟩ := h c
      refine ⟨fun i => ?_, fun i hi => ?_, hargs⟩
      · obtain ⟨a, b, rfl⟩ : ∃ (a : Fin 24576) (b : Fin 12416), i = ix2 a b := ⟨i 0, i 1, eq_ix2 i⟩
        rw [h5]
        exact array_codes m c a b
      · obtain ⟨a, b, rfl⟩ : ∃ (a : Fin 24576) (b : Fin 128), i = ix2 a b := ⟨i 0, i 1, eq_ix2 i⟩
        rw [h6]
        exact array_scales m c a b hi)
    (Value.run_blocks m ρ)

end Cert.ReferenceIdeal.Whole
-- ==== Proof.lean ====
/- The fused fp8 linear layer with GELU and group quantisation: the claims, assembled. -/
module

public import proofs.«01_k».proof.Defs
public import proofs.«01_k».proof.Proof.KernelFrame
public import proofs.«01_k».proof.Proof.KernelIdealArrays
public import proofs.«01_k».proof.Proof.ReferenceArrays
public import proofs.«01_k».proof.Proof.Gen.On_written
public import proofs.«01_k».proof.Proof.Gen.ReferenceIdeal.Frame
public import proofs.«01_k».proof.Proof.Gen.ReferenceIdeal.Value
public import Idealize.ShloMosaic.Adequacy
public import Idealize.ShloMosaic.Init

@[expose] public section

set_option maxRecDepth 16384

noncomputable section

namespace Cert.Proof

open Idealize.ShloMosaic Idealize.SL.Sem

/-- The two constants stand for the real numbers whose nearest f32 they are. -/
theorem preserves : Cert.preserves_Kernel_KernelIdeal :=
  ⟨IdealRules.named_const.statement Cert.KernelIdeal.κ "erfc_rate" .f32 0x3E87C3B6#32 _ rfl,
    IdealRules.named_const.statement Cert.KernelIdeal.κ "neg_half_log2e" .f32 0xBF38AA3B#32 _ rfl⟩

/-- The mask of the scales selects the lanes below 97, those that have a group. -/
theorem lane_of_mask (x0 x1 x2 x3 x4) (i : (⟨2, ![24576, 128]⟩ : Shape).Idx)
    (h : (Cert.On_written.fn (F := Ideal) x0 x1 x2 x3 x4).2 i = 1#1) : (i 1).val < 97 := by
  have h' : BitVec.ofBool ((BitVec.ofNat 32 (i 1).val).slt 97#32) = 1#1 := h
  have hi : (i 1).val < 128 := (i 1).isLt
  generalize (i 1).val = n at h' hi ⊢
  have hs : (BitVec.ofNat 32 n).slt 97#32 = true := by
    cases hb : (BitVec.ofNat 32 n).slt 97#32
    · rw [hb] at h'; exact absurd h' (by decide)
    · rfl
  have hn : (BitVec.ofNat 32 n).toInt = n := by
    rw [BitVec.toInt_eq_toNat_of_lt (by rw [BitVec.toNat_ofNat]; omega), BitVec.toNat_ofNat]; omega
  rw [BitVec.slt_iff_toInt_lt, hn] at hs
  have : (97#32).toInt = 97 := by decide
  omega

/-- What a lane holds: its group's value, for a lane that has one. -/
def laneValue (f : Fin 97 → EReal) (n : ℕ) : EReal := if h : n < 97 then f ⟨n, h⟩ else 0

theorem laneValue_of (f : Fin 97 → EReal) (n : ℕ) (h : n < 97) : laneValue f n = f ⟨n, h⟩ := dif_pos h

/-- Kernel and reference return the same codes, and the same scales of the groups that there are. -/
theorem algebraic : Cert.algebraic_KernelIdeal_ReferenceIdeal_on_written := by
  intro m g m' g' _ hargs
  refine ⟨fun c i => Cert.KernelIdeal.Step.codesOf m c (i 0) (i 1),
    fun c i => laneValue (Cert.KernelIdeal.Step.scalesOf m c (i 0)) (i 1).val,
    (θ_run _ _ _).mono (fun r h c => ?_) (Cert.KernelIdeal.Step.run_values m g),
    (θ_run _ _ _).mono (fun r h c => ?_) (Cert.ReferenceIdeal.Whole.run m' g')⟩
  · obtain ⟨h5, h6, h⟩ := h c
    refine ⟨fun i _ => h5 i, fun i hi => ?_, h⟩
    have hl := lane_of_mask _ _ _ _ _ i hi
    exact (h6 i hl).trans (laneValue_of _ _ hl).symm
  · obtain ⟨h5, h6, h⟩ := h c
    obtain ⟨e0, e1, e2, e3, e4⟩ := hargs c
    have ec : Cert.ReferenceIdeal.Whole.codes m' c = Cert.KernelIdeal.Step.codesOf m c := by
      unfold Cert.ReferenceIdeal.Whole.codes Cert.KernelIdeal.Step.codesOf
      rw [e0, e1, e2, e3, e4]
    have es : Cert.ReferenceIdeal.Whole.scales m' c = Cert.KernelIdeal.Step.scalesOf m c := by
      unfold Cert.ReferenceIdeal.Whole.scales Cert.KernelIdeal.Step.scalesOf
      rw [e0, e1, e2, e3, e4]
    refine ⟨fun i _ => (h5 i).trans (by rw [ec]), fun i hi => ?_, h⟩
    have hl := lane_of_mask _ _ _ _ _ i hi
    exact ((h6 i hl).trans (by rw [es])).trans (laneValue_of _ _ hl).symm

theorem claim : Cert.Claim :=
  ⟨Cert.Kernel.Gen.facts, Cert.KernelIdeal.Gen.facts, Cert.ReferenceIdeal.Gen.facts, Cert.On_written.Gen.facts,
    fun m ρ _ => Cert.Kernel.Run.frame m ρ, fun m ρ _ => Cert.KernelIdeal.Step.frame m ρ,
    fun m ρ _ => Cert.ReferenceIdeal.Gen.frame m ρ, preserves, algebraic⟩

end Cert.Proof

end
